-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite_KernelIdeal [hPre_routed_and_finite_KernelIdeal : Cert.Pre_routed_and_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite_ReferenceIdeal [hPre_routed_and_finite_ReferenceIdeal : Cert.Pre_routed_and_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_and_finite_KernelIdeal [hKernelIdeal : Cert.KernelIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_and_finite_ReferenceIdeal [hReferenceIdeal : Cert.ReferenceIdeal.Facts] [hPre_routed_and_finite_ReferenceIdeal : Cert.Pre_routed_and_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_and_finite_KernelIdeal [hKernelIdeal : Cert.KernelIdeal.Facts] [hReferenceIdeal : Cert.ReferenceIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_and_finite_KernelIdeal : Cert.Pre_routed_and_finite_KernelIdeal.Facts) (hPre_routed_and_finite_ReferenceIdeal : Cert.Pre_routed_and_finite_ReferenceIdeal.Facts),
    quiescent_Kernel (hKernel := hKernel)
    ∧ quiescent_KernelIdeal (hKernelIdeal := hKernelIdeal)
    ∧ quiescent_KernelIdeal_pre_routed_and_finite_KernelIdeal (hKernelIdeal := hKernelIdeal) (hPre_routed_and_finite_KernelIdeal := hPre_routed_and_finite_KernelIdeal)
    ∧ quiescent_ReferenceIdeal (hReferenceIdeal := hReferenceIdeal)
    ∧ quiescent_ReferenceIdeal_pre_routed_and_finite_ReferenceIdeal (hReferenceIdeal := hReferenceIdeal) (hPre_routed_and_finite_ReferenceIdeal := hPre_routed_and_finite_ReferenceIdeal)
    ∧ preserves_Kernel_KernelIdeal
    ∧ algebraic_KernelIdeal_ReferenceIdeal_pre_routed_and_finite_KernelIdeal (hKernelIdeal := hKernelIdeal) (hReferenceIdeal := hReferenceIdeal) (hPre_routed_and_finite_KernelIdeal := hPre_routed_and_finite_KernelIdeal)
-- ==== Pre_routed_and_finite_KernelIdeal.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S_ : Shape := ⟨0, ![]⟩

class Facts : Prop where
  bcast_S_S1024x2 : S_.BroadcastsInDim S1024x2 (![] : Fin 0 → Fin S1024x2.rank)
  bcast_S_S1024x256 : S_.BroadcastsInDim S1024x256 (![] : Fin 0 → Fin S1024x256.rank)
  bcast_S_S256x128 : S_.BroadcastsInDim S256x128 (![] : Fin 0 → Fin S256x128.rank)

variable [Facts]

def fn {F : FTy → Type} [FloatOps F] (main_arg0 : FVec F S1024x256 .f32) (main_arg1 : FVec F S256x128 .f32) (main_arg2 : IVec S1024x2 32) (main_arg3 : FVec F S4x256x512 .f32) : IVec S1024x2 1 × IVec S1024x256 1 × IVec S256x128 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 128#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_v5 : FVec F S1024x256 .f32 := Host.absf main_arg0
  let main_cst : FVec F S_ .f32 := constant S_ .f32 0x7F800000#32
  let main_v6 : FVec F S1024x256 .f32 := broadcastInDim S1024x256 ![] bcast_S_S1024x256 main_cst
  let main_v7 : IVec S1024x256 1 := cmpf .olt main_v5 main_v6
  let main_v8 : FVec F S256x128 .f32 := Host.absf main_arg1
  let main_cst_1 : FVec F S_ .f32 := constant S_ .f32 0x7F800000#32
  let main_v9 : FVec F S256x128 .f32 := broadcastInDim S256x128 ![] bcast_S_S256x128 main_cst_1
  let main_v10 : IVec S256x128 1 := cmpf .olt main_v8 main_v9
  (main_v4, main_v7, main_v10)
-- ==== Pre_routed_and_finite_ReferenceIdeal.lean ====
abbrev S1024x256 : Shape := ⟨2, ![1024, 256]⟩
abbrev S256x128 : Shape := ⟨2, ![256, 128]⟩
abbrev S1024x2 : Shape := ⟨2, ![1024, 2]⟩
abbrev S128x256x512 : Shape := ⟨3, ![128, 256, 512]⟩
abbrev S_ : Shape := ⟨0, ![]⟩

class Facts : Prop where
  bcast_S_S1024x2 : S_.BroadcastsInDim S1024x2 (![] : Fin 0 → Fin S1024x2.rank)
  bcast_S_S1024x256 : S_.BroadcastsInDim S1024x256 (![] : Fin 0 → Fin S1024x256.rank)
  bcast_S_S256x128 : S_.BroadcastsInDim S256x128 (![] : Fin 0 → Fin S256x128.rank)

variable [Facts]

def fn {F : FTy → Type} [FloatOps F] (main_arg0 : FVec F S1024x256 .f32) (main_arg1 : FVec F S256x128 .f32) (main_arg2 : IVec S1024x2 32) (main_arg3 : FVec F S128x256x512 .f32) : IVec S1024x2 1 × IVec S1024x256 1 × IVec S256x128 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 128#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_v5 : FVec F S1024x256 .f32 := Host.absf main_arg0
  let main_cst : FVec F S_ .f32 := constant S_ .f32 0x7F800000#32
  let main_v6 : FVec F S1024x256 .f32 := broadcastInDim S1024x256 ![] bcast_S_S1024x256 main_cst
  let main_v7 : IVec S1024x256 1 := cmpf .olt main_v5 main_v6
  let main_v8 : FVec F S256x128 .f32 := Host.absf main_arg1
  let main_cst_1 : FVec F S_ .f32 := constant S_ .f32 0x7F800000#32
  let main_v9 : FVec F S256x128 .f32 := broadcastInDim S256x128 ![] bcast_S_S256x128 main_cst_1
  let main_v10 : IVec S256x128 1 := cmpf .olt main_v8 main_v9
  (main_v4, main_v7, main_v10)
-- ==== Kernel.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S1024x512 : Shape := ⟨2, ![1024, 512]⟩
abbrev S992x512 : Shape := ⟨2, ![992, 512]⟩
abbrev S5 : Shape := ⟨1, ![5]⟩
abbrev S_ : Shape := ⟨0, ![]⟩
abbrev S1024x128 : Shape := ⟨2, ![1024, 128]⟩
abbrev S1024 : Shape := ⟨1, ![1024]⟩
abbrev S1024x1 : Shape := ⟨2, ![1024, 1]⟩
abbrev S1x256x512 : Shape := ⟨3, ![1, 256, 512]⟩
abbrev S256x512 : Shape := ⟨2, ![256, 512]⟩
abbrev S1 : Shape := ⟨1, ![1]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x2, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S256x128, .f32⟩
  | .local _ .vmem, ⟨2, _⟩ => ⟨S1024x2, .i32⟩
  | .local _ .vmem, ⟨3, _⟩ => ⟨S4x256x512, .f32⟩
  | .local _ .vmem, ⟨4, _⟩ => ⟨S1024x512, .f32⟩
  | .local _ .vmem, ⟨5, _⟩ => ⟨S1024x512, .f32⟩
  | .local _ .vmem, ⟨6, _⟩ => ⟨S992x512, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) (c0_i32_63 : BitVec 32) (c0_i32_59 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c0_i32_61 : BitVec 32 := 0#32
  let v124 : BitVec 1 := Scalar.cmpi .eq v123 c0_i32_61
  let c256_i32 : BitVec 32 := 256#32
  let c0_i32_62 : BitVec 32 := 0#32
  let v125 : BitVec 32 := Scalar.select v124 c256_i32 c0_i32_62
  let v126 : BitVec 32 := Scalar.addi c0_i32_63 v125
  let c0_i32_72 : BitVec 32 := 0#32
  ![v126.toNat, 0]
def k0_off1_at (r : Fin 2) : BitVec 32 × BitVec 32 :=
  if r.val < 1 then
    (0#32, 0#32)
  else
    (512#32, 3#32)
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_58 : BitVec 32 := 1#32
  let v121 : BitVec 32 := Scalar.xori v2 c1_i32_58
  let c1_i32_68 : BitVec 32 := 1#32
  let v129 : BitVec 32 := Scalar.muli v121 c1_i32_68
  let v130 : BitVec 32 := Scalar.addi c0_i32_69 v129
  v130.toNat
def k0_dev7 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_73 : BitVec 32 := 8#32
  let v137 : BitVec 32 := Scalar.xori v2 c8_i32_73
  let c1_i32_83 : BitVec 32 := 1#32
  let v145 : BitVec 32 := Scalar.muli v137 c1_i32_83
  let v146 : BitVec 32 := Scalar.addi c0_i32_84 v145
  v146.toNat
def k0_off2 (d0 : Dev nD) (c0_i32_65 : BitVec 32) (c0_i32_59 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v163 : Index := Scalar.indexCast v128
  let c0_100 : Index := 0#32
  ![v163.toNat, 0]
def k0_off2_at (r : Fin 2) : BitVec 32 × BitVec 32 :=
  if r.val < 1 then
    (0#32, 0#32)
  else
    (512#32, 3#32)
def k0_off3 (d0 : Dev nD) (c0_i32_65 : BitVec 32) (c0_i32_59 : BitVec 32) (c3_i32_121 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c0_i32_123 : BitVec 32 := 0#32
  let v192 : BitVec 1 := Scalar.cmpi .eq v191 c0_i32_123
  let c128_i32 : BitVec 32 := 128#32
  let c0_i32_124 : BitVec 32 := 0#32
  let v193 : BitVec 32 := Scalar.select v192 c128_i32 c0_i32_124
  let v194 : BitVec 32 := Scalar.addi v128 v193
  let c0_i32_132 : BitVec 32 := 0#32
  ![v194.toNat, 0]
def k0_off3_at (r : Fin 2) : BitVec 32 × BitVec 32 × BitVec 32 :=
  if r.val < 1 then
    (0#32, 0#32, 3#32)
  else
    (512#32, 3#32, 0#32)
def k0_dev8 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_120 : BitVec 32 := 8#32
  let v189 : BitVec 32 := Scalar.xori v2 c8_i32_120
  let c1_i32_128 : BitVec 32 := 1#32
  let v197 : BitVec 32 := Scalar.muli v189 c1_i32_128
  let v198 : BitVec 32 := Scalar.addi c0_i32_129 v197
  v198.toNat
def k0_dev9 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_133 : BitVec 32 := 1#32
  let v205 : BitVec 32 := Scalar.xori v2 c1_i32_133
  let c1_i32_142 : BitVec 32 := 1#32
  let v213 : BitVec 32 := Scalar.muli v205 c1_i32_142
  let v214 : BitVec 32 := Scalar.addi c0_i32_143 v213
  v214.toNat
def k0_off4 (d0 : Dev nD) (c0_i32_65 : BitVec 32) (c0_i32_59 : BitVec 32) (c3_i32_121 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let v231 : Index := Scalar.indexCast v196
  let c0_159 : Index := 0#32
  ![v231.toNat, 0]
def k0_off4_at (r : Fin 2) : BitVec 32 × BitVec 32 × BitVec 32 :=
  if r.val < 1 then
    (0#32, 0#32, 3#32)
  else
    (512#32, 3#32, 0#32)
def k0_off5 (d0 : Dev nD) (c0_i32_65 : BitVec 32) (c0_i32_59 : BitVec 32) (c3_i32_121 : BitVec 32) (c1_i32_179 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let v258 : BitVec 32 := Scalar.shrsi v2 c1_i32_179
  let c1_i32_180 : BitVec 32 := 1#32
  let v259 : BitVec 32 := Scalar.andi v258 c1_i32_180
  let c0_i32_181 : BitVec 32 := 0#32
  let v260 : BitVec 1 := Scalar.cmpi .eq v259 c0_i32_181
  let c64_i32 : BitVec 32 := 64#32
  let c0_i32_182 : BitVec 32 := 0#32
  let v261 : BitVec 32 := Scalar.select v260 c64_i32 c0_i32_182
  let v262 : BitVec 32 := Scalar.addi v196 v261
  let c0_i32_189 : BitVec 32 := 0#32
  ![v262.toNat, 0]
def k0_off5_at (r : Fin 2) : BitVec 32 × BitVec 32 × BitVec 32 × BitVec 32 :=
  if r.val < 1 then
    (0#32, 0#32, 3#32, 1#32)
  else
    (512#32, 3#32, 0#32, 2#32)
def k0_dev10 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_178 : BitVec 32 := 2#32
  let v257 : BitVec 32 := Scalar.xori v2 c2_i32_178
  let c1_i32_186 : BitVec 32 := 1#32
  let v265 : BitVec 32 := Scalar.muli v257 c1_i32_186
  let v266 : BitVec 32 := Scalar.addi c0_i32_187 v265
  v266.toNat
def k0_dev11 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_190 : BitVec 32 := 4#32
  let v273 : BitVec 32 := Scalar.xori v2 c4_i32_190
  let c1_i32_199 : BitVec 32 := 1#32
  let v281 : BitVec 32 := Scalar.muli v273 c1_i32_199
  let v282 : BitVec 32 := Scalar.addi c0_i32_200 v281
  v282.toNat
def k0_off6 (d0 : Dev nD) (c0_i32_65 : BitVec 32) (c0_i32_59 : BitVec 32) (c3_i32_121 : BitVec 32) (c1_i32_179 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let v258 : BitVec 32 := Scalar.shrsi v2 c1_i32_179
  let c1_i32_180 : BitVec 32 := 1#32
  let v259 : BitVec 32 := Scalar.andi v258 c1_i32_180
  let c64_i32_183 : BitVec 32 := 64#32
  let v263 : BitVec 32 := Scalar.muli v259 c64_i32_183
  let v264 : BitVec 32 := Scalar.addi v196 v263
  let v299 : Index := Scalar.indexCast v264
  let c0_216 : Index := 0#32
  ![v299.toNat, 0]
def k0_off6_at (r : Fin 2) : BitVec 32 × BitVec 32 × BitVec 32 × BitVec 32 :=
  if r.val < 1 then
    (0#32, 0#32, 3#32, 1#32)
  else
    (512#32, 3#32, 0#32, 2#32)
def k0_off7 (d0 : Dev nD) (c0_i32_65 : BitVec 32) (c0_i32_59 : BitVec 32) (c3_i32_121 : BitVec 32) (c1_i32_179 : BitVec 32) (c2_i32_236 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let v258 : BitVec 32 := Scalar.shrsi v2 c1_i32_179
  let c1_i32_180 : BitVec 32 := 1#32
  let v259 : BitVec 32 := Scalar.andi v258 c1_i32_180
  let c64_i32_183 : BitVec 32 := 64#32
  let v263 : BitVec 32 := Scalar.muli v259 c64_i32_183
  let v264 : BitVec 32 := Scalar.addi v196 v263
  let v326 : BitVec 32 := Scalar.shrsi v2 c2_i32_236
  let c1_i32_237 : BitVec 32 := 1#32
  let v327 : BitVec 32 := Scalar.andi v326 c1_i32_237
  let c0_i32_238 : BitVec 32 := 0#32
  let v328 : BitVec 1 := Scalar.cmpi .eq v327 c0_i32_238
  let c32_i32_239 : BitVec 32 := 32#32
  let c0_i32_240 : BitVec 32 := 0#32
  let v329 : BitVec 32 := Scalar.select v328 c32_i32_239 c0_i32_240
  let v330 : BitVec 32 := Scalar.addi v264 v329
  let c0_i32_247 : BitVec 32 := 0#32
  ![v330.toNat, 0]
def k0_off7_at (r : Fin 2) : BitVec 32 × BitVec 32 × BitVec 32 × BitVec 32 × BitVec 32 :=
  if r.val < 1 then
    (0#32, 0#32, 3#32, 1#32, 2#32)
  else
    (512#32, 3#32, 0#32, 2#32, 4#32)
def k0_dev12 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_235 : BitVec 32 := 4#32
  let v325 : BitVec 32 := Scalar.xori v2 c4_i32_235
  let c1_i32_244 : BitVec 32 := 1#32
  let v333 : BitVec 32 := Scalar.muli v325 c1_i32_244
  let v334 : BitVec 32 := Scalar.addi c0_i32_245 v333
  v334.toNat
def k0_dev13 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_248 : BitVec 32 := 16#32
  let v341 : BitVec 32 := Scalar.xori v2 c16_i32_248
  let c1_i32_257 : BitVec 32 := 1#32
  let v349 : BitVec 32 := Scalar.muli v341 c1_i32_257
  let v350 : BitVec 32 := Scalar.addi c0_i32_258 v349
  v350.toNat
def k0_off8 (d0 : Dev nD) (c0_i32_65 : BitVec 32) (c0_i32_59 : BitVec 32) (c3_i32_121 : BitVec 32) (c1_i32_179 : BitVec 32) (c2_i32_236 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let v258 : BitVec 32 := Scalar.shrsi v2 c1_i32_179
  let c1_i32_180 : BitVec 32 := 1#32
  let v259 : BitVec 32 := Scalar.andi v258 c1_i32_180
  let c64_i32_183 : BitVec 32 := 64#32
  let v263 : BitVec 32 := Scalar.muli v259 c64_i32_183
  let v264 : BitVec 32 := Scalar.addi v196 v263
  let v326 : BitVec 32 := Scalar.shrsi v2 c2_i32_236
  let c1_i32_237 : BitVec 32 := 1#32
  let v327 : BitVec 32 := Scalar.andi v326 c1_i32_237
  let c32_i32_241 : BitVec 32 := 32#32
  let v331 : BitVec 32 := Scalar.muli v327 c32_i32_241
  let v332 : BitVec 32 := Scalar.addi v264 v331
  let v367 : Index := Scalar.indexCast v332
  let c0_274 : Index := 0#32
  ![v367.toNat, 0]
def k0_off8_at (r : Fin 2) : BitVec 32 × BitVec 32 × BitVec 32 × BitVec 32 × BitVec 32 :=
  if r.val < 1 then
    (0#32, 0#32, 3#32, 1#32, 2#32)
  else
    (512#32, 3#32, 0#32, 2#32, 4#32)
def k0_off9 (d0 : Dev nD) (c0_i32_65 : BitVec 32) (c0_i32_59 : BitVec 32) (c3_i32_121 : BitVec 32) (c1_i32_179 : BitVec 32) (c2_i32_236 : BitVec 32) (c4_i32_294 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let v258 : BitVec 32 := Scalar.shrsi v2 c1_i32_179
  let c1_i32_180 : BitVec 32 := 1#32
  let v259 : BitVec 32 := Scalar.andi v258 c1_i32_180
  let c64_i32_183 : BitVec 32 := 64#32
  let v263 : BitVec 32 := Scalar.muli v259 c64_i32_183
  let v264 : BitVec 32 := Scalar.addi v196 v263
  let v326 : BitVec 32 := Scalar.shrsi v2 c2_i32_236
  let c1_i32_237 : BitVec 32 := 1#32
  let v327 : BitVec 32 := Scalar.andi v326 c1_i32_237
  let c32_i32_241 : BitVec 32 := 32#32
  let v331 : BitVec 32 := Scalar.muli v327 c32_i32_241
  let v332 : BitVec 32 := Scalar.addi v264 v331
  let v394 : BitVec 32 := Scalar.shrsi v2 c4_i32_294
  let c1_i32_295 : BitVec 32 := 1#32
  let v395 : BitVec 32 := Scalar.andi v394 c1_i32_295
  let c0_i32_296 : BitVec 32 := 0#32
  let v396 : BitVec 1 := Scalar.cmpi .eq v395 c0_i32_296
  let c16_i32_297 : BitVec 32 := 16#32
  let c0_i32_298 : BitVec 32 := 0#32
  let v397 : BitVec 32 := Scalar.select v396 c16_i32_297 c0_i32_298
  let v398 : BitVec 32 := Scalar.addi v332 v397
  let c0_i32_305 : BitVec 32 := 0#32
  ![v398.toNat, 0]
def k0_off9_at (r : Fin 2) : BitVec 32 × BitVec 32 × BitVec 32 × BitVec 32 × BitVec 32 × BitVec 32 :=
  if r.val < 1 then
    (0#32, 0#32, 3#32, 1#32, 2#32, 4#32)
  else
    (512#32, 3#32, 0#32, 2#32, 4#32, 1#32)
def k0_dev14 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_293 : BitVec 32 := 16#32
  let v393 : BitVec 32 := Scalar.xori v2 c16_i32_293
  let c1_i32_302 : BitVec 32 := 1#32
  let v401 : BitVec 32 := Scalar.muli v393 c1_i32_302
  let v402 : BitVec 32 := Scalar.addi c0_i32_303 v401
  v402.toNat
def k0_dev15 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_306 : BitVec 32 := 2#32
  let v409 : BitVec 32 := Scalar.xori v2 c2_i32_306
  let c1_i32_315 : BitVec 32 := 1#32
  let v417 : BitVec 32 := Scalar.muli v409 c1_i32_315
  let v418 : BitVec 32 := Scalar.addi c0_i32_316 v417
  v418.toNat
def k0_off10 (d0 : Dev nD) (c0_i32_65 : BitVec 32) (c0_i32_59 : BitVec 32) (c3_i32_121 : BitVec 32) (c1_i32_179 : BitVec 32) (c2_i32_236 : BitVec 32) (c4_i32_294 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let v258 : BitVec 32 := Scalar.shrsi v2 c1_i32_179
  let c1_i32_180 : BitVec 32 := 1#32
  let v259 : BitVec 32 := Scalar.andi v258 c1_i32_180
  let c64_i32_183 : BitVec 32 := 64#32
  let v263 : BitVec 32 := Scalar.muli v259 c64_i32_183
  let v264 : BitVec 32 := Scalar.addi v196 v263
  let v326 : BitVec 32 := Scalar.shrsi v2 c2_i32_236
  let c1_i32_237 : BitVec 32 := 1#32
  let v327 : BitVec 32 := Scalar.andi v326 c1_i32_237
  let c32_i32_241 : BitVec 32 := 32#32
  let v331 : BitVec 32 := Scalar.muli v327 c32_i32_241
  let v332 : BitVec 32 := Scalar.addi v264 v331
  let v394 : BitVec 32 := Scalar.shrsi v2 c4_i32_294
  let c1_i32_295 : BitVec 32 := 1#32
  let v395 : BitVec 32 := Scalar.andi v394 c1_i32_295
  let c16_i32_299 : BitVec 32 := 16#32
  let v399 : BitVec 32 := Scalar.muli v395 c16_i32_299
  let v400 : BitVec 32 := Scalar.addi v332 v399
  let v435 : Index := Scalar.indexCast v400
  let c0_332 : Index := 0#32
  ![v435.toNat, 0]
def k0_off10_at (r : Fin 2) : BitVec 32 × BitVec 32 × BitVec 32 × BitVec 32 × BitVec 32 × BitVec 32 :=
  if r.val < 1 then
    (0#32, 0#32, 3#32, 1#32, 2#32, 4#32)
  else
    (512#32, 3#32, 0#32, 2#32, 4#32, 1#32)
def k0_off11 (d0 : Dev nD) (c0_i32_65 : BitVec 32) (c0_i32_59 : BitVec 32) (c3_i32_121 : BitVec 32) (c1_i32_179 : BitVec 32) (c2_i32_236 : BitVec 32) (c4_i32_294 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let v258 : BitVec 32 := Scalar.shrsi v2 c1_i32_179
  let c1_i32_180 : BitVec 32 := 1#32
  let v259 : BitVec 32 := Scalar.andi v258 c1_i32_180
  let c64_i32_183 : BitVec 32 := 64#32
  let v263 : BitVec 32 := Scalar.muli v259 c64_i32_183
  let v264 : BitVec 32 := Scalar.addi v196 v263
  let v326 : BitVec 32 := Scalar.shrsi v2 c2_i32_236
  let c1_i32_237 : BitVec 32 := 1#32
  let v327 : BitVec 32 := Scalar.andi v326 c1_i32_237
  let c32_i32_241 : BitVec 32 := 32#32
  let v331 : BitVec 32 := Scalar.muli v327 c32_i32_241
  let v332 : BitVec 32 := Scalar.addi v264 v331
  let v394 : BitVec 32 := Scalar.shrsi v2 c4_i32_294
  let c1_i32_295 : BitVec 32 := 1#32
  let v395 : BitVec 32 := Scalar.andi v394 c1_i32_295
  let c16_i32_299 : BitVec 32 := 16#32
  let v399 : BitVec 32 := Scalar.muli v395 c16_i32_299
  let v400 : BitVec 32 := Scalar.addi v332 v399
  let c0_i32_360 : BitVec 32 := 0#32
  ![v400.toNat, 0]
def k0_off11_at (r : Fin 2) : BitVec 32 × BitVec 32 × BitVec 32 × BitVec 32 × BitVec 32 × BitVec 32 :=
  if r.val < 1 then
    (0#32, 0#32, 3#32, 1#32, 2#32, 4#32)
  else
    (512#32, 3#32, 0#32, 2#32, 4#32, 1#32)
def k0_dev16 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_355 : BitVec 32 := 16#32
  let v469 : BitVec 32 := Scalar.xori v2 c16_i32_355
  let c1_i32_358 : BitVec 32 := 1#32
  let v470 : BitVec 32 := Scalar.muli v469 c1_i32_358
  let v471 : BitVec 32 := Scalar.addi c0_i32_359 v470
  v471.toNat
def k0_dev17 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_362 : BitVec 32 := 2#32
  let v478 : BitVec 32 := Scalar.xori v2 c2_i32_362
  let c1_i32_365 : BitVec 32 := 1#32
  let v479 : BitVec 32 := Scalar.muli v478 c1_i32_365
  let v480 : BitVec 32 := Scalar.addi c0_i32_366 v479
  v480.toNat
def k0_off12 (d0 : Dev nD) (c0_i32_65 : BitVec 32) (c0_i32_59 : BitVec 32) (c3_i32_121 : BitVec 32) (c1_i32_179 : BitVec 32) (c2_i32_236 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let v258 : BitVec 32 := Scalar.shrsi v2 c1_i32_179
  let c1_i32_180 : BitVec 32 := 1#32
  let v259 : BitVec 32 := Scalar.andi v258 c1_i32_180
  let c64_i32_183 : BitVec 32 := 64#32
  let v263 : BitVec 32 := Scalar.muli v259 c64_i32_183
  let v264 : BitVec 32 := Scalar.addi v196 v263
  let v326 : BitVec 32 := Scalar.shrsi v2 c2_i32_236
  let c1_i32_237 : BitVec 32 := 1#32
  let v327 : BitVec 32 := Scalar.andi v326 c1_i32_237
  let c32_i32_241 : BitVec 32 := 32#32
  let v331 : BitVec 32 := Scalar.muli v327 c32_i32_241
  let v332 : BitVec 32 := Scalar.addi v264 v331
  let c0_i32_396 : BitVec 32 := 0#32
  ![v332.toNat, 0]
def k0_off12_at (r : Fin 2) : BitVec 32 × BitVec 32 × BitVec 32 × BitVec 32 × BitVec 32 :=
  if r.val < 1 then
    (0#32, 0#32, 3#32, 1#32, 2#32)
  else
    (512#32, 3#32, 0#32, 2#32, 4#32)
def k0_dev18 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_391 : BitVec 32 := 4#32
  let v507 : BitVec 32 := Scalar.xori v2 c4_i32_391
  let c1_i32_394 : BitVec 32 := 1#32
  let v508 : BitVec 32 := Scalar.muli v507 c1_i32_394
  let v509 : BitVec 32 := Scalar.addi c0_i32_395 v508
  v509.toNat
def k0_dev19 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_398 : BitVec 32 := 16#32
  let v516 : BitVec 32 := Scalar.xori v2 c16_i32_398
  let c1_i32_401 : BitVec 32 := 1#32
  let v517 : BitVec 32 := Scalar.muli v516 c1_i32_401
  let v518 : BitVec 32 := Scalar.addi c0_i32_402 v517
  v518.toNat
def k0_off13 (d0 : Dev nD) (c0_i32_65 : BitVec 32) (c0_i32_59 : BitVec 32) (c3_i32_121 : BitVec 32) (c1_i32_179 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let v258 : BitVec 32 := Scalar.shrsi v2 c1_i32_179
  let c1_i32_180 : BitVec 32 := 1#32
  let v259 : BitVec 32 := Scalar.andi v258 c1_i32_180
  let c64_i32_183 : BitVec 32 := 64#32
  let v263 : BitVec 32 := Scalar.muli v259 c64_i32_183
  let v264 : BitVec 32 := Scalar.addi v196 v263
  let c0_i32_432 : BitVec 32 := 0#32
  ![v264.toNat, 0]
def k0_off13_at (r : Fin 2) : BitVec 32 × BitVec 32 × BitVec 32 × BitVec 32 :=
  if r.val < 1 then
    (0#32, 0#32, 3#32, 1#32)
  else
    (512#32, 3#32, 0#32, 2#32)
def k0_dev20 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_427 : BitVec 32 := 2#32
  let v545 : BitVec 32 := Scalar.xori v2 c2_i32_427
  let c1_i32_430 : BitVec 32 := 1#32
  let v546 : BitVec 32 := Scalar.muli v545 c1_i32_430
  let v547 : BitVec 32 := Scalar.addi c0_i32_431 v546
  v547.toNat
def k0_dev21 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_434 : BitVec 32 := 4#32
  let v554 : BitVec 32 := Scalar.xori v2 c4_i32_434
  let c1_i32_437 : BitVec 32 := 1#32
  let v555 : BitVec 32 := Scalar.muli v554 c1_i32_437
  let v556 : BitVec 32 := Scalar.addi c0_i32_438 v555
  v556.toNat
def k0_off14 (d0 : Dev nD) (c0_i32_65 : BitVec 32) (c0_i32_59 : BitVec 32) (c3_i32_121 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let v190 : BitVec 32 := Scalar.shrsi v2 c3_i32_121
  let c1_i32_122 : BitVec 32 := 1#32
  let v191 : BitVec 32 := Scalar.andi v190 c1_i32_122
  let c128_i32_125 : BitVec 32 := 128#32
  let v195 : BitVec 32 := Scalar.muli v191 c128_i32_125
  let v196 : BitVec 32 := Scalar.addi v128 v195
  let c0_i32_468 : BitVec 32 := 0#32
  ![v196.toNat, 0]
def k0_off14_at (r : Fin 2) : BitVec 32 × BitVec 32 × BitVec 32 :=
  if r.val < 1 then
    (0#32, 0#32, 3#32)
  else
    (512#32, 3#32, 0#32)
def k0_dev22 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_463 : BitVec 32 := 8#32
  let v583 : BitVec 32 := Scalar.xori v2 c8_i32_463
  let c1_i32_466 : BitVec 32 := 1#32
  let v584 : BitVec 32 := Scalar.muli v583 c1_i32_466
  let v585 : BitVec 32 := Scalar.addi c0_i32_467 v584
  v585.toNat
def k0_dev23 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_470 : BitVec 32 := 1#32
  let v592 : BitVec 32 := Scalar.xori v2 c1_i32_470
  let c1_i32_473 : BitVec 32 := 1#32
  let v593 : BitVec 32 := Scalar.muli v592 c1_i32_473
  let v594 : BitVec 32 := Scalar.addi c0_i32_474 v593
  v594.toNat
def k0_off15 (d0 : Dev nD) (c0_i32_65 : BitVec 32) (c0_i32_59 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v122 : BitVec 32 := Scalar.shrsi v2 c0_i32_59
  let c1_i32_60 : BitVec 32 := 1#32
  let v123 : BitVec 32 := Scalar.andi v122 c1_i32_60
  let c256_i32_64 : BitVec 32 := 256#32
  let v127 : BitVec 32 := Scalar.muli v123 c256_i32_64
  let v128 : BitVec 32 := Scalar.addi c0_i32_65 v127
  let c0_i32_504 : BitVec 32 := 0#32
  ![v128.toNat, 0]
def k0_off15_at (r : Fin 2) : BitVec 32 × BitVec 32 :=
  if r.val < 1 then
    (0#32, 0#32)
  else
    (512#32, 3#32)
def k0_dev24 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_499 : BitVec 32 := 1#32
  let v621 : BitVec 32 := Scalar.xori v2 c1_i32_499
  let c1_i32_502 : BitVec 32 := 1#32
  let v622 : BitVec 32 := Scalar.muli v621 c1_i32_502
  let v623 : BitVec 32 := Scalar.addi c0_i32_503 v622
  v623.toNat
def k0_dev25 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v630 : BitVec 32 := Scalar.xori v2 c8_i32_506
  let c1_i32_509 : BitVec 32 := 1#32
  let v631 : BitVec 32 := Scalar.muli v630 c1_i32_509
  let v632 : BitVec 32 := Scalar.addi c0_i32_510 v631
  v632.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x128 : Shape := ⟨2, ![256, 128]⟩
abbrev S1024x2 : Shape := ⟨2, ![1024, 2]⟩
abbrev S128x256x512 : Shape := ⟨3, ![128, 256, 512]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S1 : Shape := ⟨1, ![1]⟩
abbrev S1x1x1 : Shape := ⟨3, ![1, 1, 1]⟩
abbrev S1024x256x512 : Shape := ⟨3, ![1024, 256, 512]⟩
abbrev S1024x512 : Shape := ⟨2, ![1024, 512]⟩

abbrev nBuf : Space → Nat
  | .hbm => 72
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x2, .i32⟩
  | .hbm, ⟨3, _⟩ => ⟨S128x256x512, .f32⟩
  | .hbm, ⟨4, _⟩ => ⟨S1024x128, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x128, .f32⟩
  | .hbm, ⟨15, _⟩ => ⟨S1024x128, .f32⟩
  | .hbm, ⟨16, _⟩ => ⟨S1024x1, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S_, .i32⟩
  | .hbm, ⟨21, _⟩ => ⟨S1024x2, .i32⟩
  | .hbm, ⟨22, _⟩ => ⟨S1024x2, .i1⟩
  | .hbm, ⟨23, _⟩ => ⟨S_, .i32⟩
  | .hbm, ⟨24, _⟩ => ⟨S1024x2, .i32⟩
  | .hbm, ⟨25, _⟩ => ⟨S1024x2, .i32⟩
  | .hbm, ⟨26, _⟩ => ⟨S1024x2, .i32⟩
  | .hbm, ⟨27, _⟩ => ⟨S1024x2x1, .i32⟩
  | .hbm, ⟨28, _⟩ => ⟨S1, .i32⟩
  | .hbm, ⟨29, _⟩ => ⟨S_, .i32⟩
  | .hbm, ⟨30, _⟩ => ⟨S1024x2x1, .i32⟩
  | .hbm, ⟨31, _⟩ => ⟨S1024x2x1, .i1⟩
  | .hbm, ⟨32, _⟩ => ⟨S1x1x1, .i32⟩
  | .hbm, ⟨33, _⟩ => ⟨S1024x2x1, .i32⟩
  | .hbm, ⟨34, _⟩ => ⟨S1024x2x1, .i1⟩
  | .hbm, ⟨35, _⟩ => ⟨S1024x2x1, .i1⟩
  | .hbm, ⟨36, _⟩ => ⟨S_, .i1⟩
  | .hbm, ⟨37, _⟩ => ⟨S1024x2, .i1⟩
  | .hbm, ⟨38, _⟩ => ⟨S1024x2, .f32⟩
  | .hbm, ⟨39, _⟩ => ⟨S_, .f32⟩
  | .hbm, ⟨40, _⟩ => ⟨S1024x2, .f32⟩
  | .hbm, ⟨41, _⟩ => ⟨S1024x2, .f32⟩
  | .hbm, ⟨42, _⟩ => ⟨S1024x1, .f32⟩
  | .hbm, ⟨43, _⟩ => ⟨S1024x1, .f32⟩
  | .hbm, ⟨44, _⟩ => ⟨S1024x1, .f32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S1024x256x512, .f32⟩
  | .hbm, ⟨54, _⟩ => ⟨S1024x512, .f32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S1024, .i32⟩
  | .hbm, ⟨62, _⟩ => ⟨S1024x1, .i32⟩
  | .hbm, ⟨63, _⟩ => ⟨S1024x256x512, .f32⟩
  | .hbm, ⟨64, _⟩ => ⟨S1024x512, .f32⟩
  | .hbm, ⟨65, _⟩ => ⟨S1024x1, .f32⟩
  | .hbm, ⟨66, _⟩ => ⟨S1024x512, .f32⟩
  | .hbm, ⟨67, _⟩ => ⟨S1024x512, .f32⟩
  | .hbm, ⟨68, _⟩ => ⟨S1024x1, .f32⟩
  | .hbm, ⟨69, _⟩ => ⟨S1024x512, .f32⟩
  | .hbm, ⟨70, _⟩ => ⟨S1024x512, .f32⟩
  | .hbm, ⟨71, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_2 : Ref sig .tc := ⟨.hbm, 55, rfl⟩
abbrev main_v26 : Ref sig .tc := ⟨.hbm, 56, rfl⟩
abbrev main_v27 : Ref sig .tc := ⟨.hbm, 57, rfl⟩
abbrev main_c_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]
-- ==== Proof.Geometry.lean ====
/-
# The exchange's arithmetic

The kernel's twenty copies per device are numbered in the order in which it starts them: copy `s < 10` belongs to the
reduce-scatter (stage `s / 2`), copy `s ≥ 10` to the all-gather (which walks the stages back). Even copies serve the upper
half of the rows (rows 0 to 511), odd ones the lower half. This module names each copy's partner, size, row ranges, landing
slot and semaphores, and identifies the addresses the kernel computes with them, by deciding over the 32 devices.
-/
module

public import proofs.«01_k».proof.Proof.Gen.KernelIdeal
public import proofs.«01_k».proof.Proof.Gen.KernelIdeal.Launch

@[expose] public section

noncomputable section

namespace Cert.Exchange

open Cert.KernelIdeal Cert.KernelIdeal.Gen
open Idealize.ShloMosaic Idealize.ShloMosaic.TcCoe

set_option backward.proofsInPublic true in
/-- Device `c` with bit `b` of its number flipped. -/
def flip (b : Fin 5) (c : Dev nD) : Dev nD := ⟨(c.val ^^^ 2 ^ b.val) % 32, Nat.mod_lt _ (by decide)⟩

theorem flip_flip : ∀ (b : Fin 5) (c : Dev nD), flip b (flip b c) = c := by decide +kernel

/-- The stage of copy `s`, and the half it serves. -/
def stg (s : Fin 20) : ℕ := if s.val < 10 then s.val / 2 else 9 - s.val / 2
def half (s : Fin 20) : ℕ := s.val % 2

/-- Which bit of the device number the exchange of half `i` crosses at stage `k`. -/
def bitAt (i k : ℕ) : Fin 5 :=
  if i = 0 then (if k = 0 then 0 else if k = 1 then 3 else if k = 2 then 1 else if k = 3 then 2 else 4)
  else (if k = 0 then 3 else if k = 1 then 0 else if k = 2 then 2 else if k = 3 then 4 else 1)

def bitOf (s : Fin 20) : Fin 5 := bitAt (half s) (stg s)
/-- The device copy `s` of `c` goes to, which is also the one whose copy `s` comes to `c`. -/
def peer (s : Fin 20) (c : Dev nD) : Dev nD := flip (bitOf s) c
theorem peer_peer (s : Fin 20) (c : Dev nD) : peer s (peer s c) = c := flip_flip _ _

/-- The number of rows copy `s` moves. -/
def rows (s : Fin 20) : ℕ := 256 / 2 ^ stg s

/-- The first row of the range of half `i` that device `c` is responsible for after `k` stages; the range has
    `512 / 2 ^ k` rows. Each stage keeps the half its bit of the device number selects. -/
def st (i : ℕ) : ℕ → Dev nD → ℕ
  | 0, _ => 512 * i
  | k + 1, c => st i k c + 256 / 2 ^ k * (c.val / 2 ^ (bitAt i k).val % 2)

/-- The range kept at copy `s`'s stage starts here; the range sent away starts where the partner's kept one does. -/
def kept (s : Fin 20) (c : Dev nD) : ℕ := st (half s) (stg s + 1) c
def sent (s : Fin 20) (c : Dev nD) : ℕ := kept s (peer s c)

/-- The first row of copy `s`'s landing slot in the scratch buffer (reduce-scatter copies). -/
def slot (s : Fin 20) : ℕ := 496 * half s + (512 - 512 / 2 ^ stg s)

theorem kept_le : ∀ (s : Fin 20) (c : Dev nD), kept s c + rows s ≤ 1024 := by decide +kernel
theorem sent_le (s : Fin 20) (c : Dev nD) : sent s c + rows s ≤ 1024 := kept_le s _
theorem slot_le : ∀ s : Fin 20, slot s + rows s ≤ 992 := by decide +kernel

set_option backward.proofsInPublic true in
/-- The two DMA semaphores of copy `s`. -/
def sendQ (s : Fin 20) : DmaSem sig := ⟨(5 + stg s + 10 * half s + if s.val < 10 then 0 else 20) % 45, Nat.mod_lt _ (by decide)⟩
set_option backward.proofsInPublic true in
def recvQ (s : Fin 20) : DmaSem sig := ⟨(10 + stg s + 10 * half s + if s.val < 10 then 0 else 20) % 45, Nat.mod_lt _ (by decide)⟩

/-- The range of stage `k` is the range kept and the range sent, side by side in one order or the other. -/
theorem kept_sent : ∀ (s : Fin 20) (c : Dev nD), let a := st (half s) (stg s) c
    (kept s c = a ∧ sent s c = a + rows s) ∨ (sent s c = a ∧ kept s c = a + rows s) := by decide +kernel

/-! ## The addresses the kernel computes -/

theorem dev1_eq : ∀ c : Dev nD, (⟨k0_dev1 c, k0_dev1_lt c⟩ : Dev nD) = flip 0 c := by decide +kernel
theorem dev2_eq : ∀ c : Dev nD, (⟨k0_dev2 c, k0_dev2_lt c⟩ : Dev nD) = flip 1 c := by decide +kernel
theorem dev3_eq : ∀ c : Dev nD, (⟨k0_dev3 c, k0_dev3_lt c⟩ : Dev nD) = flip 2 c := by decide +kernel
theorem dev4_eq : ∀ c : Dev nD, (⟨k0_dev4 c, k0_dev4_lt c⟩ : Dev nD) = flip 3 c := by decide +kernel
theorem dev5_eq : ∀ c : Dev nD, (⟨k0_dev5 c, k0_dev5_lt c⟩ : Dev nD) = flip 4 c := by decide +kernel
theorem dev6_eq : ∀ c : Dev nD, (⟨k0_dev6 c, k0_dev6_lt c⟩ : Dev nD) = peer 0 c := by decide +kernel
theorem dev7_eq : ∀ c : Dev nD, (⟨k0_dev7 c, k0_dev7_lt c⟩ : Dev nD) = peer 1 c := by decide +kernel
theorem dev8_eq : ∀ c : Dev nD, (⟨k0_dev8 c, k0_dev8_lt c⟩ : Dev nD) = peer 2 c := by decide +kernel
theorem dev9_eq : ∀ c : Dev nD, (⟨k0_dev9 c, k0_dev9_lt c⟩ : Dev nD) = peer 3 c := by decide +kernel
theorem dev10_eq : ∀ c : Dev nD, (⟨k0_dev10 c, k0_dev10_lt c⟩ : Dev nD) = peer 4 c := by decide +kernel
theorem dev11_eq : ∀ c : Dev nD, (⟨k0_dev11 c, k0_dev11_lt c⟩ : Dev nD) = peer 5 c := by decide +kernel
theorem dev12_eq : ∀ c : Dev nD, (⟨k0_dev12 c, k0_dev12_lt c⟩ : Dev nD) = peer 6 c := by decide +kernel
theorem dev13_eq : ∀ c : Dev nD, (⟨k0_dev13 c, k0_dev13_lt c⟩ : Dev nD) = peer 7 c := by decide +kernel
theorem dev14_eq : ∀ c : Dev nD, (⟨k0_dev14 c, k0_dev14_lt c⟩ : Dev nD) = peer 8 c := by decide +kernel
theorem dev15_eq : ∀ c : Dev nD, (⟨k0_dev15 c, k0_dev15_lt c⟩ : Dev nD) = peer 9 c := by decide +kernel
theorem dev16_eq : ∀ c : Dev nD, (⟨k0_dev16 c, k0_dev16_lt c⟩ : Dev nD) = peer 10 c := by decide +kernel
theorem dev17_eq : ∀ c : Dev nD, (⟨k0_dev17 c, k0_dev17_lt c⟩ : Dev nD) = peer 11 c := by decide +kernel
theorem dev18_eq : ∀ c : Dev nD, (⟨k0_dev18 c, k0_dev18_lt c⟩ : Dev nD) = peer 12 c := by decide +kernel
theorem dev19_eq : ∀ c : Dev nD, (⟨k0_dev19 c, k0_dev19_lt c⟩ : Dev nD) = peer 13 c := by decide +kernel
theorem dev20_eq : ∀ c : Dev nD, (⟨k0_dev20 c, k0_dev20_lt c⟩ : Dev nD) = peer 14 c := by decide +kernel
theorem dev21_eq : ∀ c : Dev nD, (⟨k0_dev21 c, k0_dev21_lt c⟩ : Dev nD) = peer 15 c := by decide +kernel
theorem dev22_eq : ∀ c : Dev nD, (⟨k0_dev22 c, k0_dev22_lt c⟩ : Dev nD) = peer 16 c := by decide +kernel
theorem dev23_eq : ∀ c : Dev nD, (⟨k0_dev23 c, k0_dev23_lt c⟩ : Dev nD) = peer 17 c := by decide +kernel
theorem dev24_eq : ∀ c : Dev nD, (⟨k0_dev24 c, k0_dev24_lt c⟩ : Dev nD) = peer 18 c := by decide +kernel
theorem dev25_eq : ∀ c : Dev nD, (⟨k0_dev25 c, k0_dev25_lt c⟩ : Dev nD) = peer 19 c := by decide +kernel
theorem off1_eqA : ∀ c : Dev nD, k0_off1 c 0#32 0#32 = ![sent 0 c, 0] := by decide +kernel
theorem off2_eqA : ∀ c : Dev nD, k0_off2 c 0#32 0#32 = ![kept 0 c, 0] := by decide +kernel
theorem off1_eqB : ∀ c : Dev nD, k0_off1 c 512#32 3#32 = ![sent 1 c, 0] := by decide +kernel
theorem off2_eqB : ∀ c : Dev nD, k0_off2 c 512#32 3#32 = ![kept 1 c, 0] := by decide +kernel
theorem off3_eqA : ∀ c : Dev nD, k0_off3 c 0#32 0#32 3#32 = ![sent 2 c, 0] := by decide +kernel
theorem off4_eqA : ∀ c : Dev nD, k0_off4 c 0#32 0#32 3#32 = ![kept 2 c, 0] := by decide +kernel
theorem off3_eqB : ∀ c : Dev nD, k0_off3 c 512#32 3#32 0#32 = ![sent 3 c, 0] := by decide +kernel
theorem off4_eqB : ∀ c : Dev nD, k0_off4 c 512#32 3#32 0#32 = ![kept 3 c, 0] := by decide +kernel
theorem off5_eqA : ∀ c : Dev nD, k0_off5 c 0#32 0#32 3#32 1#32 = ![sent 4 c, 0] := by decide +kernel
theorem off6_eqA : ∀ c : Dev nD, k0_off6 c 0#32 0#32 3#32 1#32 = ![kept 4 c, 0] := by decide +kernel
theorem off5_eqB : ∀ c : Dev nD, k0_off5 c 512#32 3#32 0#32 2#32 = ![sent 5 c, 0] := by decide +kernel
theorem off6_eqB : ∀ c : Dev nD, k0_off6 c 512#32 3#32 0#32 2#32 = ![kept 5 c, 0] := by decide +kernel
theorem off7_eqA : ∀ c : Dev nD, k0_off7 c 0#32 0#32 3#32 1#32 2#32 = ![sent 6 c, 0] := by decide +kernel
theorem off8_eqA : ∀ c : Dev nD, k0_off8 c 0#32 0#32 3#32 1#32 2#32 = ![kept 6 c, 0] := by decide +kernel
theorem off7_eqB : ∀ c : Dev nD, k0_off7 c 512#32 3#32 0#32 2#32 4#32 = ![sent 7 c, 0] := by decide +kernel
theorem off8_eqB : ∀ c : Dev nD, k0_off8 c 512#32 3#32 0#32 2#32 4#32 = ![kept 7 c, 0] := by decide +kernel
theorem off9_eqA : ∀ c : Dev nD, k0_off9 c 0#32 0#32 3#32 1#32 2#32 4#32 = ![sent 8 c, 0] := by decide +kernel
theorem off10_eqA : ∀ c : Dev nD, k0_off10 c 0#32 0#32 3#32 1#32 2#32 4#32 = ![kept 8 c, 0] := by decide +kernel
theorem off9_eqB : ∀ c : Dev nD, k0_off9 c 512#32 3#32 0#32 2#32 4#32 1#32 = ![sent 9 c, 0] := by decide +kernel
theorem off10_eqB : ∀ c : Dev nD, k0_off10 c 512#32 3#32 0#32 2#32 4#32 1#32 = ![kept 9 c, 0] := by decide +kernel
theorem off11_eqA : ∀ c : Dev nD, k0_off11 c 0#32 0#32 3#32 1#32 2#32 4#32 = ![kept 10 c, 0] := by decide +kernel
theorem off11_eqB : ∀ c : Dev nD, k0_off11 c 512#32 3#32 0#32 2#32 4#32 1#32 = ![kept 11 c, 0] := by decide +kernel
theorem off12_eqA : ∀ c : Dev nD, k0_off12 c 0#32 0#32 3#32 1#32 2#32 = ![kept 12 c, 0] := by decide +kernel
theorem off12_eqB : ∀ c : Dev nD, k0_off12 c 512#32 3#32 0#32 2#32 4#32 = ![kept 13 c, 0] := by decide +kernel
theorem off13_eqA : ∀ c : Dev nD, k0_off13 c 0#32 0#32 3#32 1#32 = ![kept 14 c, 0] := by decide +kernel
theorem off13_eqB : ∀ c : Dev nD, k0_off13 c 512#32 3#32 0#32 2#32 = ![kept 15 c, 0] := by decide +kernel
theorem off14_eqA : ∀ c : Dev nD, k0_off14 c 0#32 0#32 3#32 = ![kept 16 c, 0] := by decide +kernel
theorem off14_eqB : ∀ c : Dev nD, k0_off14 c 512#32 3#32 0#32 = ![kept 17 c, 0] := by decide +kernel
theorem off15_eqA : ∀ c : Dev nD, k0_off15 c 0#32 0#32 = ![kept 18 c, 0] := by decide +kernel
theorem off15_eqB : ∀ c : Dev nD, k0_off15 c 512#32 3#32 = ![kept 19 c, 0] := by decide +kernel

end Cert.Exchange

end
-- ==== Proof.Views.lean ====
/-
# Rows of the three exchanged buffers

The partial-sum buffer `P` (1024 rows), the landing buffer `Q` (992 rows) and the staged result `O` (1024 rows) are only ever
addressed by blocks of consecutive full rows. This module names such a set of rows and says how ownership of rows is cut and
joined, and what a load, a store and a landing see of it.
-/
module

public import proofs.«01_k».proof.Proof.Geometry
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Rows `a … a + n - 1` of a buffer of `R` rows of 512 words. -/
def rowSet (R a n : ℕ) : Finset (⟨2, ![R, 512]⟩ : Shape).Idx := Finset.univ.filter fun i => a ≤ (i 0).val ∧ (i 0).val < a + n

theorem mem_rowSet {R a n : ℕ} {i : (⟨2, ![R, 512]⟩ : Shape).Idx} : i ∈ rowSet R a n ↔ a ≤ (i 0).val ∧ (i 0).val < a + n := by
  unfold rowSet; rw [Finset.mem_filter]; exact and_iff_right (Finset.mem_univ _)

theorem rowSet_disjoint {R a n b k : ℕ} (h : a + n ≤ b ∨ b + k ≤ a) : Disjoint (rowSet R a n) (rowSet R b k) :=
  Finset.disjoint_left.mpr fun i hi hj => by rw [mem_rowSet] at hi hj; omega

theorem rowSet_append (R a n k : ℕ) : rowSet R a n ∪ rowSet R (a + n) k = rowSet R a (n + k) := by
  ext i; rw [Finset.mem_union, mem_rowSet, mem_rowSet, mem_rowSet]; omega

theorem rowSet_univ (R : ℕ) : rowSet R 0 R = Finset.univ :=
  Finset.eq_univ_iff_forall.mpr fun i => mem_rowSet.mpr ⟨Nat.zero_le _, by have := (i 0).isLt; rw [Nat.zero_add]; exact this⟩

theorem rect_rows {R a n : ℕ} (inb : ∀ i : Fin 2, (![a, 0] : Fin 2 → ℕ) i + (![n, 512] : Fin 2 → ℕ) i ≤ (⟨2, ![R, 512]⟩ : Shape).size i) :
    (Rect.unit (s := ⟨2, ![R, 512]⟩) ![a, 0] ![n, 512] inb).set = rowSet R a n := by
  ext i
  rw [Rect.mem_set_unit, mem_rowSet]
  constructor
  · intro h; exact h 0
  · intro h k
    match k with
    | 0 => exact h
    | 1 => exact ⟨Nat.zero_le _, by have := (i 1).isLt; show (i 1).val < 0 + 512; rw [Nat.zero_add]; exact this⟩

abbrev Pm : Memref sig .tc .vmem S1024x512 .f32 := Memref.whole cc0_scratch0
abbrev Qm : Memref sig .tc .vmem S992x512 .f32 := Memref.whole cc0_scratch1
abbrev Om : Memref sig .tc .vmem S1024x512 .f32 := Memref.whole cc0_stg4_0

theorem inb_rows {R a n : ℕ} (h : a + n ≤ R) : ∀ i : Fin 2, (![a, 0] : Fin 2 → ℕ) i + (![n, 512] : Fin 2 → ℕ) i ≤ (⟨2, ![R, 512]⟩ : Shape).size i
  | 0 => h
  | 1 => Nat.le_of_eq (Nat.zero_add _)

/-- The rows as the kernel addresses them: a slice of the whole buffer. -/
abbrev prow (a n : ℕ) (h : a + n ≤ 1024) : Memref sig .tc .vmem ⟨2, ![n, 512]⟩ .f32 :=
  Pm.slice (Rect.unit (s := S1024x512) ![a, 0] ![n, 512] (inb_rows h)) (fun _ => rfl)
abbrev qrow (a n : ℕ) (h : a + n ≤ 992) : Memref sig .tc .vmem ⟨2, ![n, 512]⟩ .f32 :=
  Qm.slice (Rect.unit (s := S992x512) ![a, 0] ![n, 512] (inb_rows h)) (fun _ => rfl)
abbrev orow (a n : ℕ) (h : a + n ≤ 1024) : Memref sig .tc .vmem ⟨2, ![n, 512]⟩ .f32 :=
  Om.slice (Rect.unit (s := S1024x512) ![a, 0] ![n, 512] (inb_rows h)) (fun _ => rfl)

theorem prow_set (a n : ℕ) (h : a + n ≤ 1024) : (prow a n h).view.set = rowSet 1024 a n := (View.set_slice_whole _ _).trans (rect_rows _)
theorem qrow_set (a n : ℕ) (h : a + n ≤ 992) : (qrow a n h).view.set = rowSet 992 a n := (View.set_slice_whole _ _).trans (rect_rows _)
theorem orow_set (a n : ℕ) (h : a + n ≤ 1024) : (orow a n h).view.set = rowSet 1024 a n := (View.set_slice_whole _ _).trans (rect_rows _)

/-- A copy of `n` rows credits the same whichever of the three buffers it reads or writes. -/
theorem cred_pq {a b n : ℕ} (h : a + n ≤ 1024) (h' : b + n ≤ 992) : (prow a n h).view.dmaCredit = (qrow b n h').view.dmaCredit := rfl
theorem cred_pp {a b n : ℕ} (h : a + n ≤ 1024) (h' : b + n ≤ 1024) : (prow a n h).view.dmaCredit = (prow b n h').view.dmaCredit := rfl
theorem cred_po {a b n : ℕ} (h : a + n ≤ 1024) (h' : b + n ≤ 1024) : (prow a n h).view.dmaCredit = (orow b n h').view.dmaCredit := rfl

/-- Storing what another content reads at the same rows leaves that content there. -/
theorem write_read_on {sp : Space} {s : Shape} {e : EltTy} (v : View sig .tc sp s e) (f g : v.ty.Contents (Elt F)) :
    ∀ i ∈ v.set, v.write (Elt F) f (v.read (Elt F) g) Finset.univ i = g i := fun i hi => by
  rw [View.write_read_eq_piecewise]
  exact Finset.piecewise_eq_of_mem _ _ _ hi

/-- Reading a sum of contents reads the two and adds. -/
theorem prow_read_addf {a n : ℕ} (h : a + n ≤ 1024) (f g : FVec F S1024x512 .f32) :
    (prow a n h).view.read (Elt F) (addf f g : FVec F S1024x512 .f32)
      = (addf ((prow a n h).view.read (Elt F) f : FVec F ⟨2, ![n, 512]⟩ .f32) ((prow a n h).view.read (Elt F) g) : FVec F ⟨2, ![n, 512]⟩ .f32) := rfl

end Cert.Exchange

end
-- ==== Proof.Protocol.lean ====
/-
# The exchange's protocol

One round of every semaphore cell. A device's barrier cell takes one unit from each of the five devices whose number differs
in one bit; with its unit, the device across bit `b` hands over the rows of its own landing buffers that copies across
that bit will write. Each of the twenty copies has a send cell (the copy's source rows come back) and a receive
cell on the device it lands on (the rows written, with their contents). A device waits for its barrier before its
first copy, and for copy `s` only when all copies up to `s` are started, which is why no wait can be circular:
cells are ranked barrier first, then copies in order.
-/
module

public import proofs.«01_k».proof.Proof.Views

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def ptsP (c : Dev nD) (S : Finset S1024x512.Idx) (f : FVec F S1024x512 .f32) : sProp 𝕄 :=
  ((c : Thread nD τ).loc cc0_scratch0) ↦[S]{fullShare} f
def ptsQ (c : Dev nD) (S : Finset S992x512.Idx) (f : FVec F S992x512 .f32) : sProp 𝕄 :=
  ((c : Thread nD τ).loc cc0_scratch1) ↦[S]{fullShare} f
def ptsO (c : Dev nD) (S : Finset S1024x512.Idx) (f : FVec F S1024x512 .f32) : sProp 𝕄 :=
  ((c : Thread nD τ).loc cc0_stg4_0) ↦[S]{fullShare} f

omit [FloatOps F] in
instance ptsP_storable (c : Dev nD) (S) (f) : BI.Storable (upEmb : UEmb _ 𝕄) (ptsP (F := F) c S f) := by unfold ptsP; infer_instance
omit [FloatOps F] in
instance ptsQ_storable (c : Dev nD) (S) (f) : BI.Storable (upEmb : UEmb _ 𝕄) (ptsQ (F := F) c S f) := by unfold ptsQ; infer_instance
omit [FloatOps F] in
instance ptsO_storable (c : Dev nD) (S) (f) : BI.Storable (upEmb : UEmb _ 𝕄) (ptsO (F := F) c S f) := by unfold ptsO; infer_instance

/-! ## Contents -/

section Contents
variable (part : Dev nD → FVec F S1024x512 .f32)

/-- The partial sums of half `i` after `k` stages: each stage adds what the partner had. -/
def acc (i : ℕ) : ℕ → Dev nD → FVec F S1024x512 .f32
  | 0, c => part c
  | k + 1, c => addf (acc i k c) (acc i k (flip (bitAt i k) c))

/-- The device whose last range of half `i` starts at row `r`. -/
def owner (i r : ℕ) : Dev nD := ((List.finRange nD).find? fun c => st i 5 c == r).getD 0

theorem owner_st : ∀ (i : Fin 2) (c : Dev nD), owner i.val (st i.val 5 c) = c := by decide +kernel
theorem st_facts : ∀ (i : Fin 2) (c : Dev nD), st i.val 5 c % 16 = 0 ∧ st i.val 5 c / 512 = i.val ∧ st i.val 5 c < 1024 := by decide +kernel

/-- The gathered result: every row as its owner has it after the five stages. -/
def outF : FVec F S1024x512 .f32 := fun x =>
  acc part ((x 0).val / 512) 5 (owner ((x 0).val / 512) ((x 0).val / 16 * 16)) x

theorem outF_own (i : Fin 2) (c : Dev nD) : ∀ x ∈ rowSet 1024 (st i.val 5 c) 16, acc part i.val 5 c x = outF part x := fun x hx => by
  rw [mem_rowSet] at hx
  obtain ⟨h1, h2, h3⟩ := st_facts i c
  have e1 : (x 0).val / 16 * 16 = st i.val 5 c := by omega
  have e2 : (x 0).val / 512 = i.val := by omega
  unfold outF
  rw [e1, e2, owner_st]

end Contents

/-! ## Cells -/

/-- The barrier semaphore of the runtime. -/
abbrev barS : Sem sig := (SemArray.scalar (sig.barrier 0 rfl) : Sems sig S_).sem
abbrev barCell (c : Dev nD) : GSem nD τ sig := ((c : Thread nD τ), .reg barS)
abbrev sendCell (c : Dev nD) (s : Fin 20) : GSem nD τ sig := ((c : Thread nD τ), .dma (sendQ s))
abbrev recvCell (c : Dev nD) (s : Fin 20) : GSem nD τ sig := ((c : Thread nD τ), .dma (recvQ s))

/-- What a semaphore of the kernel is for. -/
inductive Kind where
  | bar | send (s : Fin 20) | recv (s : Fin 20) | other
  deriving DecidableEq

/-- The DMA semaphores lie in eight runs of five after the staging ones: the arrays of the reduce-scatter, then of
    the all-gather, for each half a send and a receive array, indexed by stage. -/
def kindQ (q : ℕ) : Kind :=
  if q < 5 then .other
  else
    let a := (q - 5) / 5
    let k := (q - 5) % 5
    let s : Fin 20 := Fin.ofNat 20 (if a / 4 = 0 then 2 * k + a / 2 % 2 else 10 + 2 * (4 - k) + a / 2 % 2)
    if a % 2 = 0 then .send s else .recv s

def kind : SemLoc sig → Kind
  | .reg r => if r = barS then .bar else .other
  | .dma q => kindQ q.val

theorem kind_bar : kind (.reg barS) = .bar := by decide +kernel
theorem kind_send : ∀ s : Fin 20, kind (.dma (sendQ s)) = .send s := by decide +kernel
theorem kind_recv : ∀ s : Fin 20, kind (.dma (recvQ s)) = .recv s := by decide +kernel

/-- The units a copy's cells are credited. -/
def Nc (s : Fin 20) : ℕ := (prow 0 (rows s) (by have := kept_le s 0; omega)).view.dmaCredit
theorem rows_pos : ∀ s : Fin 20, 0 < (⟨2, ![rows s, 512]⟩ : Shape).numel := by decide +kernel
theorem Nc_pos (s : Fin 20) : 0 < Nc s := View.dmaCredit_pos _ (rows_pos s)

section Sched
variable (part : Dev nD → FVec F S1024x512 .f32)

/-- The rows of device `p` that copy `s` of its partner writes. -/
def landPts (s : Fin 20) (p : Dev nD) : sProp 𝕄 :=
  if s.val < 10 then iprop(∃ f, ptsQ p (rowSet 992 (slot s) (rows s)) f) else iprop(∃ f, ptsO p (rowSet 1024 (sent s p) (rows s)) f)
def sendPay (s : Fin 20) (c : Dev nD) : sProp 𝕄 :=
  if s.val < 10 then iprop(∃ f, ptsP c (rowSet 1024 (sent s c) (rows s)) f) else ptsO c (rowSet 1024 (kept s c) (rows s)) (outF part)
def landed (s : Fin 20) (c : Dev nD) : sProp 𝕄 :=
  iprop(∃ f, ⌜(qrow (slot s) (rows s) (slot_le s)).view.read (Elt F) f
      = (prow (kept s c) (rows s) (kept_le s c)).view.read (Elt F) (acc part (half s) (stg s) (peer s c))⌝ ∗ ptsQ c (rowSet 992 (slot s) (rows s)) f)
def recvPay (s : Fin 20) (c : Dev nD) : sProp 𝕄 :=
  if s.val < 10 then landed part s c else ptsO c (rowSet 1024 (sent s c) (rows s)) (outF part)
/-- What the device across bit `b` hands over with its unit on `c`'s barrier. -/
def barPay (c : Dev nD) (b : Fin 5) : sProp 𝕄 := bigSep (Finset.univ.filter fun s => bitOf s = b) fun s => landPts s (peer s c)

omit [FloatOps F] in
instance landPts_storable (s : Fin 20) (p : Dev nD) : BI.Storable (upEmb : UEmb _ 𝕄) (landPts (F := F) s p) := by
  unfold landPts; split <;> infer_instance
instance sendPay_storable (s : Fin 20) (p : Dev nD) : BI.Storable (upEmb : UEmb _ 𝕄) (sendPay (F := F) part s p) := by
  unfold sendPay; split <;> infer_instance
instance landed_storable (s : Fin 20) (p : Dev nD) : BI.Storable (upEmb : UEmb _ 𝕄) (landed (F := F) part s p) := by
  unfold landed; infer_instance
instance recvPay_storable (s : Fin 20) (p : Dev nD) : BI.Storable (upEmb : UEmb _ 𝕄) (recvPay (F := F) part s p) := by
  unfold recvPay; split <;> infer_instance
omit [FloatOps F] in
instance barPay_storable (c : Dev nD) (b : Fin 5) : BI.Storable (upEmb : UEmb _ 𝕄) (barPay (F := F) c b) := by
  unfold barPay; infer_instance

def dutiesOf : Kind → Finset (Fin 5)
  | .bar => Finset.univ | .send _ => {0} | .recv _ => {0} | .other => ∅
def amountOf : Kind → ℕ
  | .bar => 1 | .send s => Nc s | .recv s => Nc s | .other => 1
def payOf (c : Dev nD) (d : Fin 5) : Kind → sProp 𝕄
  | .bar => barPay c d | .send s => sendPay part s c | .recv s => recvPay part s c | .other => iprop(emp)

theorem amountOf_pos : ∀ k, 0 < amountOf k
  | .bar => Nat.one_pos | .send s => Nc_pos s | .recv s => Nc_pos s | .other => Nat.one_pos

def Rd : Rounds.Schedule (GSem nD τ sig) (Fin 5) 𝕄 where
  duties g r := if r = 0 ∧ g.1.2 = .tc then dutiesOf (kind g.2) else ∅
  unitless _ := False
  amount g _ _ := amountOf (kind g.2)
  payload g _ d := payOf part g.1.1 d (kind g.2)
  amount_pos g _ _ _ := amountOf_pos _

instance Rd_payload_storable (g : GSem nD τ sig) (r : ℕ) (d : Fin 5) :
    BI.Storable (upEmb : UEmb _ 𝕄) ((Rd (F := F) part).payload g r d) := by
  show BI.Storable upEmb (payOf part g.1.1 d (kind g.2))
  unfold payOf
  split <;> infer_instance

variable (c : Dev nD) (s : Fin 20)

theorem duties_bar : (Rd (F := F) part).duties (barCell c) 0 = Finset.univ := by
  dsimp only [Rd]; rw [if_pos ⟨rfl, rfl⟩, kind_bar]; rfl
theorem duties_send : (Rd (F := F) part).duties (sendCell c s) 0 = {0} := by
  dsimp only [Rd]; rw [if_pos ⟨rfl, rfl⟩, kind_send]; rfl
theorem duties_recv : (Rd (F := F) part).duties (recvCell c s) 0 = {0} := by
  dsimp only [Rd]; rw [if_pos ⟨rfl, rfl⟩, kind_recv]; rfl
theorem duties_later (g : GSem nD τ sig) : ∀ r, 1 ≤ r → (Rd (F := F) part).duties g r = ∅ :=
  fun r hr => by dsimp only [Rd]; rw [if_neg fun h => by omega]

theorem amount_bar (d : Fin 5) : (Rd (F := F) part).amount (barCell c) 0 d = 1 := by dsimp only [Rd]; rw [kind_bar]; rfl
theorem amount_send (d : Fin 5) : (Rd (F := F) part).amount (sendCell c s) 0 d = Nc s := by dsimp only [Rd]; rw [kind_send]; rfl
theorem amount_recv (d : Fin 5) : (Rd (F := F) part).amount (recvCell c s) 0 d = Nc s := by dsimp only [Rd]; rw [kind_recv]; rfl

theorem payload_bar (d : Fin 5) : (Rd (F := F) part).payload (barCell c) 0 d = barPay c d := by dsimp only [Rd]; rw [kind_bar]; rfl
theorem payload_send (d : Fin 5) : (Rd (F := F) part).payload (sendCell c s) 0 d = sendPay part s c := by dsimp only [Rd]; rw [kind_send]; rfl
theorem payload_recv (d : Fin 5) : (Rd (F := F) part).payload (recvCell c s) 0 d = recvPay part s c := by dsimp only [Rd]; rw [kind_recv]; rfl

theorem expect_bar : (Rd (F := F) part).expect (barCell c) 0 = 5 := by
  unfold Schedule.expect Schedule.amountOf
  rw [duties_bar, Finset.sum_congr rfl fun d _ => amount_bar part c d, Finset.sum_const, Finset.card_univ, Fintype.card_fin, smul_eq_mul]
theorem expect_send : (Rd (F := F) part).expect (sendCell c s) 0 = Nc s := by
  unfold Schedule.expect Schedule.amountOf; rw [duties_send, Finset.sum_singleton, amount_send]
theorem expect_recv : (Rd (F := F) part).expect (recvCell c s) 0 = Nc s := by
  unfold Schedule.expect Schedule.amountOf; rw [duties_recv, Finset.sum_singleton, amount_recv]

omit [FloatOps F] in
/-- Something per copy, grouped by the bit the copy crosses. -/
theorem by_bit (Φ : Fin 20 → sProp 𝕄) :
    bigSep Finset.univ (fun b : Fin 5 => bigSep (Finset.univ.filter fun s => bitOf s = b) Φ) = bigSep Finset.univ Φ := by
  rw [bigSep_congr fun b _ => bigSep_filter Finset.univ (fun s => bitOf s = b) Φ, bigSep_univ_comm]
  refine bigSep_congr fun s _ => ?_
  rw [← bigSep_filter Finset.univ (fun b => bitOf s = b) (fun _ => Φ s), Finset.filter_eq, if_pos (Finset.mem_univ _), bigSep_singleton]

theorem rest_bar : bigSep ((Rd (F := F) part).duties (barCell c) 0 \ ∅) (fun d => (Rd (F := F) part).payload (barCell c) 0 d)
    = bigSep Finset.univ fun s => landPts s (peer s c) := by
  rw [Finset.sdiff_empty, duties_bar, bigSep_congr fun d _ => payload_bar part c d]
  exact by_bit _
theorem rest_send : bigSep ((Rd (F := F) part).duties (sendCell c s) 0 \ ∅) (fun d => (Rd (F := F) part).payload (sendCell c s) 0 d) = sendPay part s c := by
  rw [Finset.sdiff_empty, duties_send, bigSep_singleton, payload_send]
theorem rest_recv : bigSep ((Rd (F := F) part).duties (recvCell c s) 0 \ ∅) (fun d => (Rd (F := F) part).payload (recvCell c s) 0 d) = recvPay part s c := by
  rw [Finset.sdiff_empty, duties_recv, bigSep_singleton, payload_recv]

end Sched

/-! ## What a device owes, and the ranks -/

/-- Copies `n, n + 1, …` still to be started: their landings are owed. -/
def Orem (n : ℕ) (c : Dev nD) : CellTallies nD τ sig Unit :=
  ∑ s ∈ Finset.univ.filter (fun s : Fin 20 => n ≤ s.val), tallyAt (recvCell (peer s c) s) () (Nc s)
/-- Besides, the barrier units to the partners across bits `n, n + 1, …`. -/
def Obar (n : ℕ) (c : Dev nD) : CellTallies nD τ sig Unit :=
  Orem 0 c + ∑ b ∈ Finset.univ.filter (fun b : Fin 5 => n ≤ b.val), tallyAt (barCell (flip b c)) () 1

theorem filter_ge {N : ℕ} (s : Fin N) :
    Finset.univ.filter (fun t : Fin N => s.val ≤ t.val) = insert s (Finset.univ.filter fun t : Fin N => s.val + 1 ≤ t.val) := by
  ext t
  simp only [Finset.mem_filter, Finset.mem_insert, Finset.mem_univ, true_and, Fin.ext_iff]
  omega

theorem Orem_peel (s : Fin 20) (c : Dev nD) : Orem s.val c = Orem (s.val + 1) c + tallyAt (recvCell (peer s c) s) () (Nc s) := by
  unfold Orem
  rw [filter_ge, Finset.sum_insert (by simp), add_comm]
theorem Obar_peel (b : Fin 5) (c : Dev nD) : Obar b.val c = Obar (b.val + 1) c + tallyAt (barCell (flip b c)) () 1 := by
  unfold Obar
  rw [filter_ge, Finset.sum_insert (by simp), add_assoc, add_comm (tallyAt _ _ _)]
theorem Orem_end (c : Dev nD) : Orem 20 c = 0 := by
  unfold Orem
  rw [Finset.filter_false_of_mem fun s _ => by have := s.isLt; omega, Finset.sum_empty]
theorem Obar_end (c : Dev nD) : Obar 5 c = Orem 0 c := by
  unfold Obar
  rw [Finset.filter_false_of_mem fun s _ => by have := s.isLt; omega, Finset.sum_empty, add_zero]

def L (g : GSem nD τ sig) : Finset Unit := if g.1.2 = .tc then {()} else ∅
def rank : Kind → ℕ
  | .bar => 1 | .recv s => 2 + s.val | _ => 0
def lv (g : GSem nD τ sig) (_ : Unit) : ℕ := rank (kind g.2)

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {I : Type} {S : Finset I} {G : I → GSem nD τ sig} {N : I → ℕ} {g : GSem nD τ sig} {u : Unit}
    (h : 0 < (∑ s ∈ S, tallyAt (G s) () (N s) : CellTallies nD τ sig Unit) g u) : ∃ s ∈ S, g = G s := by
  rw [Finset.sum_apply, Finsupp.finset_sum_apply] at h
  obtain ⟨s, hs, h0⟩ := Finset.exists_ne_zero_of_sum_ne_zero (Nat.pos_iff_ne_zero.mp h)
  refine ⟨s, hs, ?_⟩
  rw [tallyAt_apply] at h0
  by_contra hn
  exact h0 (if_neg fun h' => hn h'.1)

theorem Orem_pos {n : ℕ} {c : Dev nD} {g : GSem nD τ sig} {u : Unit} (h : 0 < Orem n c g u) :
    g.1.2 = .tc ∧ n + 1 < lv g u := by
  obtain ⟨s, hs, rfl⟩ := sum_tally_pos h
  refine ⟨rfl, ?_⟩
  have := (Finset.mem_filter.mp hs).2
  unfold lv; rw [kind_recv]; show n + 1 < 2 + s.val; omega

theorem Obar_pos {n : ℕ} {c : Dev nD} {g : GSem nD τ sig} {u : Unit} (h : 0 < Obar n c g u) : g.1.2 = .tc ∧ 0 < lv g u := by
  unfold Obar at h
  rw [Pi.add_apply, Finsupp.add_apply] at h
  rcases Nat.eq_zero_or_pos (Orem 0 c g u) with h0 | h0
  · rw [h0, zero_add] at h
    obtain ⟨b, -, rfl⟩ := sum_tally_pos h
    refine ⟨rfl, ?_⟩
    unfold lv; rw [kind_bar]; exact Nat.one_pos
  · have := Orem_pos h0; exact ⟨this.1, by omega⟩

omit [FloatOps F] in
theorem mayWait_of (c : Dev nD) (sm : SemLoc sig) (O : CellTallies nD τ sig Unit) (cut : ℕ) (hw : rank (kind sm) ≤ cut)
    (hO : ∀ g u, 0 < O g u → g.1.2 = .tc ∧ cut < lv g u) :
    (levAts L lv : sProp 𝕄) ⊢ MayWait (c : Thread nD τ) sm () O :=
  MayOwe.of_cut (L := L) (lev := lv) cut (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hw)
    (fun g u hg => (hO g u hg).2)

omit [FloatOps F] in
/-- The barrier wait, every copy still to be started. -/
theorem mayWait_bar (c : Dev nD) : (levAts L lv : sProp 𝕄) ⊢ MayWait (c : Thread nD τ) (.reg barS) () (Orem 0 c) :=
  mayWait_of c _ _ 1 (by rw [kind_bar]; exact le_rfl) fun g u h => Orem_pos h
omit [FloatOps F] in
/-- A wait on a cell that ranks lowest. -/
theorem mayWait_low (c : Dev nD) (sm : SemLoc sig) (h : rank (kind sm) = 0) (n : ℕ) :
    (levAts L lv : sProp 𝕄) ⊢ MayWait (c : Thread nD τ) sm () (Orem n c) :=
  mayWait_of c _ _ 0 (le_of_eq h) fun g u h => ⟨(Orem_pos h).1, by have := (Orem_pos h).2; omega⟩
omit [FloatOps F] in
/-- The wait for copy `s` to land, the copies up to `s` started. -/
theorem mayWait_recv (c : Dev nD) (s : Fin 20) (n : ℕ) (h : s.val < n) :
    (levAts L lv : sProp 𝕄) ⊢ MayWait (c : Thread nD τ) (.dma (recvQ s)) () (Orem n c) :=
  mayWait_of c _ _ (n + 1) (by rw [kind_recv]; show 2 + s.val ≤ n + 1; omega) fun g u h => Orem_pos h

end Cert.Exchange

end
-- ==== Proof.Ops.lean ====
/-
# The body's steps

A copy goes through four phases on its device: ready, in flight, its source rows back, its incoming rows landed. One lemma
per operation, for every copy alike, moves it on.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The cells of a device: its barrier's, and each copy's send (`false`) and receive (`true`) cell. -/
abbrev CellIx : Type := Option (Fin 20 × Bool)
def cellAt (c : Dev nD) : CellIx → GSem nD τ sig
  | none => barCell c
  | some (s, false) => sendCell c s
  | some (s, true) => recvCell c s

section Steps
variable (part : Dev nD → FVec F S1024x512 .f32) (K : Dev nD × CellIx → ℕ)

/-- Every cell's invariant, and that every cell has reached its round. -/
def records : sProp 𝕄 :=
  bigSep Finset.univ fun p : Dev nD × CellIx => iprop(cellInv ER (Rd part) (K p) (cellAt p.1 p.2) ∗ reached ER (cellAt p.1 p.2) 0)

instance records_persistent : BI.Persistent (records part K) := by unfold records; infer_instance

theorem records_get (c : Dev nD) (x : CellIx) :
    records part K ⊢ iprop(cellInv ER (Rd part) (K (c, x)) (cellAt c x) ∗ reached ER (cellAt c x) 0) :=
  bigSep_elim (Finset.mem_univ (c, x))

/-- Ownership as a body carries it: the records and the ranks. -/
def env : sProp 𝕄 := iprop(records part K ∗ levAts L lv)
instance env_persistent : BI.Persistent (env part K) := by unfold env; infer_instance

def Ow (n : ℕ) (c : Dev nD) : sProp 𝕄 := iprop(∃ W, owes (c : Thread nD τ) (Orem n c) W)

/-! ## The phases of a copy -/

/-- What a device holds of copy `s` from the launch on. -/
def Pend (s : Fin 20) (c : Dev nD) : sProp 𝕄 :=
  iprop(atPos ER (sendCell c s) 0 ∅ 0 ∗ atPos ER (recvCell c s) 0 ∅ 0 ∗ dutyTok ER (sendCell c s) 0 0 ∗ dutyTok ER (recvCell (peer s c) s) 0 0
    ∗ cred (tallyAt (recvCell c s) () (Nc s)))
/-- With the partner's rows the copy will write, as the barrier hands them over. -/
def Ready (s : Fin 20) (c : Dev nD) : sProp 𝕄 := iprop(Pend s c ∗ landPts s (peer s c))
def Fly (s : Fin 20) (c : Dev nD) : sProp 𝕄 :=
  iprop(cred (tallyAt (sendCell c s) () (Nc s)) ∗ atPos ER (sendCell c s) 0 ∅ 0 ∗ atPos ER (recvCell c s) 0 ∅ 0 ∗ cred (tallyAt (recvCell c s) () (Nc s)))
def Sent (s : Fin 20) (c : Dev nD) : sProp 𝕄 :=
  iprop(semVal (sendCell c s) 0 ∗ atPos ER (recvCell c s) 0 ∅ 0 ∗ cred (tallyAt (recvCell c s) () (Nc s)) ∗ sendPay part s c)
def Done (s : Fin 20) (c : Dev nD) : sProp 𝕄 :=
  iprop(semVal (sendCell c s) 0 ∗ semVal (recvCell c s) 0 ∗ sendPay part s c ∗ recvPay part s c)
/-- The two cells closed. -/
def Over (s : Fin 20) (c : Dev nD) : sProp 𝕄 := iprop(semVal (sendCell c s) 0 ∗ semVal (recvCell c s) 0)

/-! ## Rows -/

/-- The rows of half `i` a device is responsible for after `k` stages. -/
def rng (i k : ℕ) (c : Dev nD) : Finset S1024x512.Idx := rowSet 1024 (st i k c) (512 / 2 ^ k)
/-- Half `i` of the partial sums after `k` stages, on those rows. -/
def PA (i k : ℕ) (c : Dev nD) : sProp 𝕄 := ptsP c (rng i k c) (acc part i k c)
/-- Half `i` of the result, on those rows. -/
def OA (i k : ℕ) (c : Dev nD) : sProp 𝕄 := ptsO c (rng i k c) (outF part)

theorem rows_eq : ∀ s : Fin 20, rows s = 512 / 2 ^ (stg s + 1) ∧ 512 / 2 ^ stg s = rows s + rows s := by decide +kernel

theorem rng_kept (s : Fin 20) (c : Dev nD) : rowSet 1024 (kept s c) (rows s) = rng (half s) (stg s + 1) c := by
  unfold rng kept; rw [(rows_eq s).1]
theorem rng_split (s : Fin 20) (c : Dev nD) :
    rng (half s) (stg s) c = rowSet 1024 (sent s c) (rows s) ∪ rowSet 1024 (kept s c) (rows s) := by
  unfold rng
  rw [(rows_eq s).2]
  rcases kept_sent s c with ⟨h1, h2⟩ | ⟨h1, h2⟩
  · rw [h1, h2, Finset.union_comm, rowSet_append]
  · rw [h1, h2, rowSet_append]
theorem sent_kept_disjoint (s : Fin 20) (c : Dev nD) : Disjoint (rowSet 1024 (sent s c) (rows s)) (rowSet 1024 (kept s c) (rows s)) :=
  rowSet_disjoint (by rcases kept_sent s c with ⟨h1, h2⟩ | ⟨h1, h2⟩ <;> omega)

omit [FloatOps F] in
theorem ptsP_split (s : Fin 20) (c : Dev nD) (f : FVec F S1024x512 .f32) :
    ptsP c (rng (half s) (stg s) c) f ⊣⊢ iprop(ptsP c (rowSet 1024 (sent s c) (rows s)) f ∗ ptsP c (rowSet 1024 (kept s c) (rows s)) f) := by
  unfold ptsP; rw [rng_split]; exact pointsTo_union (sent_kept_disjoint s c)
omit [FloatOps F] in
theorem ptsO_split (s : Fin 20) (c : Dev nD) (f : FVec F S1024x512 .f32) :
    ptsO c (rng (half s) (stg s) c) f ⊣⊢ iprop(ptsO c (rowSet 1024 (sent s c) (rows s)) f ∗ ptsO c (rowSet 1024 (kept s c) (rows s)) f) := by
  unfold ptsO; rw [rng_split]; exact pointsTo_union (sent_kept_disjoint s c)

theorem half_peer (s : Fin 20) (c : Dev nD) (k : ℕ) (h : k = stg s) :
    acc part (half s) (k + 1) c = addf (acc part (half s) k c) (acc part (half s) k (peer s c)) := by subst h; rfl

/-- What a copy of the reduce-scatter leaves in the landing slot. -/
theorem landed_intro (s : Fin 20) (c : Dev nD) (hs : s.val < 10) (fd : FVec F S992x512 .f32) :
    ptsQ (peer s c) (rowSet 992 (slot s) (rows s))
        ((qrow (slot s) (rows s) (slot_le s)).view.write (Elt F) fd
          ((prow (sent s c) (rows s) (sent_le s c)).view.read (Elt F) (acc part (half s) (stg s) c)) Finset.univ)
      ⊢ recvPay part s (peer s c) := by
  unfold recvPay; rw [if_pos hs]
  unfold landed
  iintro H
  iexists _
  isplitr
  rotate_left
  · iexact H
  ipureintro
  rw [View.read_write_univ]
  rw [peer_peer]
  rfl

/-- What a copy of the all-gather leaves in the partner's rows. -/
theorem gathered_intro (s : Fin 20) (c : Dev nD) (hs : ¬ s.val < 10) (fd : FVec F S1024x512 .f32) :
    ptsO (peer s c) (rowSet 1024 (kept s c) (rows s))
        ((orow (kept s c) (rows s) (kept_le s c)).view.write (Elt F) fd
          ((orow (kept s c) (rows s) (kept_le s c)).view.read (Elt F) (outF part)) Finset.univ)
      ⊢ recvPay part s (peer s c) := by
  unfold recvPay; rw [if_neg hs]
  unfold sent; rw [peer_peer]
  unfold ptsO
  refine Entails.of_eq (pointsTo_congr fun i hi => ?_)
  exact write_read_on (orow (kept s c) (rows s) (kept_le s c)).view fd (outF part) i (by rw [orow_set]; exact hi)

end Steps

end Cert.Exchange

end
-- ==== Proof.Steps.lean ====
/-
# One lemma per operation of the body

Stated for every copy alike: starting it, the wait for its source, the wait for its landing, and the load and store with
which a landed block is added to the rows kept.
-/
module

public import proofs.«01_k».proof.Proof.Ops

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps
variable (part : Dev nD → FVec F S1024x512 .f32) (K : Dev nD × CellIx → ℕ)
variable {α : Type} {Q : α → sProp (MT nD τ sig Unit (Elt F) ℕ UU ℕ)}

omit [FloatOps F] in
theorem amount_q (s : Fin 20) (q : DmaSem sig) : (qrow (slot s) (rows s) (slot_le s)).view.amount (.dma q) = Nc s :=
  (cred_pq _ (slot_le s)).symm
omit [FloatOps F] in
theorem amount_o (s : Fin 20) (a : ℕ) (h : a + rows s ≤ 1024) (q : DmaSem sig) : (orow a (rows s) h).view.amount (.dma q) = Nc s :=
  (cred_po _ h).symm

omit [FloatOps F] in
theorem ptsP_view (c : Dev nD) {a n : ℕ} (h : a + n ≤ 1024) (f : FVec F S1024x512 .f32) :
    ptsP c (rowSet 1024 a n) f = ((prow a n h).view.loc (c : Thread nD τ) ↦[(prow a n h).view.set]{fullShare} f) := by rw [prow_set]; rfl
omit [FloatOps F] in
theorem ptsQ_view (c : Dev nD) {a n : ℕ} (h : a + n ≤ 992) (f : FVec F S992x512 .f32) :
    ptsQ c (rowSet 992 a n) f = ((qrow a n h).view.loc (c : Thread nD τ) ↦[(qrow a n h).view.set]{fullShare} f) := by rw [qrow_set]; rfl
omit [FloatOps F] in
theorem ptsO_view (c : Dev nD) {a n : ℕ} (h : a + n ≤ 1024) (f : FVec F S1024x512 .f32) :
    ptsO c (rowSet 1024 a n) f = ((orow a n h).view.loc (c : Thread nD τ) ↦[(orow a n h).view.set]{fullShare} f) := by rw [orow_set]; rfl

theorem sendPay_P (s : Fin 20) (c : Dev nD) (hs : s.val < 10) :
    ((prow (sent s c) (rows s) (sent_le s c)).view.loc (c : Thread nD τ) ↦[(prow (sent s c) (rows s) (sent_le s c)).view.set]{fullShare}
      (acc part (half s) (stg s) c : FVec F S1024x512 .f32)) ⊢ (sendPay part s c : sProp 𝕄) := by
  rw [← ptsP_view]; unfold sendPay; rw [if_pos hs]; iintro H; iexists _; iexact H

theorem landed_q (s : Fin 20) (c : Dev nD) (hs : s.val < 10) (fd : FVec F S992x512 .f32) :
    ((qrow (slot s) (rows s) (slot_le s)).view.loc (peer s c : Thread nD τ) ↦[(qrow (slot s) (rows s) (slot_le s)).view.set]{fullShare}
        ((qrow (slot s) (rows s) (slot_le s)).view.write (Elt F) fd
          ((prow (sent s c) (rows s) (sent_le s c)).view.read (Elt F) (acc part (half s) (stg s) c)) Finset.univ))
      ⊢ (recvPay part s (peer s c) : sProp 𝕄) := by
  rw [← ptsQ_view]; exact landed_intro part s c hs fd

theorem sendPay_O (s : Fin 20) (c : Dev nD) (hs : ¬ s.val < 10) :
    ((orow (kept s c) (rows s) (kept_le s c)).view.loc (c : Thread nD τ) ↦[(orow (kept s c) (rows s) (kept_le s c)).view.set]{fullShare}
      (outF part : FVec F S1024x512 .f32)) ⊢ (sendPay part s c : sProp 𝕄) := by
  rw [← ptsO_view]; unfold sendPay; rw [if_neg hs]

theorem gathered_o (s : Fin 20) (c : Dev nD) (hs : ¬ s.val < 10) (fd : FVec F S1024x512 .f32) :
    ((orow (kept s c) (rows s) (kept_le s c)).view.loc (peer s c : Thread nD τ) ↦[(orow (kept s c) (rows s) (kept_le s c)).view.set]{fullShare}
        ((orow (kept s c) (rows s) (kept_le s c)).view.write (Elt F) fd
          ((orow (kept s c) (rows s) (kept_le s c)).view.read (Elt F) (outF part)) Finset.univ))
      ⊢ (recvPay part s (peer s c) : sProp 𝕄) := by
  rw [← ptsO_view]; exact gathered_intro part s c hs fd

/-- The rows kept at copy `s`'s stage, the partner's not yet added. -/
def PK (s : Fin 20) (c : Dev nD) : sProp 𝕄 := ptsP c (rowSet 1024 (kept s c) (rows s)) (acc part (half s) (stg s) c)

/-- Starting copy `s` of the reduce-scatter: it takes the rows to send and the partner's slot. -/
theorem step_sendRS (s : Fin 20) (hs : s.val < 10) (c p : Dev nD) (hp : p = peer s c) (n : ℕ) (hn : n = rows s)
    {offS offD : Fin 2 → ℕ} (hoS : offS = ![sent s c, 0]) (hoD : offD = ![slot s, 0])
    {inbS : ∀ i : Fin 2, offS i + (![n, 512] : Fin 2 → ℕ) i ≤ S1024x512.size i}
    {inbD : ∀ i : Fin 2, offD i + (![n, 512] : Fin 2 → ℕ) i ≤ S992x512.size i}
    {h1 : ∀ a, (Rect.unit (s := S1024x512) offS ![n, 512] inbS).stride a = 1} {h2 : ∀ a, (Rect.unit (s := S992x512) offD ![n, 512] inbD).stride a = 1} (qS qR : DmaSem sig) (hqS : qS = sendQ s) (hqR : qR = recvQ s)
    {hsc : (Qm.slice (Rect.unit (s := S992x512) offD ![n, 512] inbD) h2 : Memref sig (Dev.tc p : Thread nD τ).2.kind .vmem ⟨2, ![n, 512]⟩ .f32).view.ref.isScScratch = false}
    {hsrc : (Pm.slice (Rect.unit (s := S1024x512) offS ![n, 512] inbS) h1).view.WordExact}
    {hdst : (Qm.slice (Rect.unit (s := S992x512) offD ![n, 512] inbD) h2).view.WordExact}
    {hsem : DmaTarget.Typed .vmem (.dma qR) (.remote (Dev.tc p : Thread nD τ) (Qm.slice (Rect.unit (s := S992x512) offD ![n, 512] inbD) h2) (.dma qS) hsc)} {k : PUnit → Prog (TpuEff nD τ sig (Elt F) Λ₀ .tc) α} :
    iprop(env part K ∗ Ready s c ∗ PA part (half s) (stg s) c ∗ Ow s.val c)
      ⊢ iprop(((Fly s c ∗ PK part s c ∗ Ow (s.val + 1) c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Pm.slice (Rect.unit (s := S1024x512) offS ![n, 512] inbS) h1)
                (.remote (Dev.tc p : Thread nD τ) (Qm.slice (Rect.unit (s := S992x512) offD ![n, 512] inbD) h2) (.dma qS) hsc) (.dma qR) hsrc hdst hsem) k) Q) := by
  subst hp hn hoS hoD hqS hqR
  unfold env Ready Pend PA Ow landPts
  rw [if_pos hs]
  iintro ⟨⟨#Hrec, #Hlev⟩, ⟨⟨HaS, HaR, HtS, HtR, HcR⟩, ⟨%fd, Hd⟩⟩, HP, ⟨%W, HO⟩⟩ Hk
  ihave HP2 := (ptsP_split s c _).1 $$ HP
  icases HP2 with ⟨HPs, HPk⟩
  ihave #HiS := (records_get part K c (some (s, false))) $$ Hrec
  icases HiS with ⟨#HIS, #HRS⟩
  ihave #HiR := (records_get part K (peer s c) (some (s, true))) $$ Hrec
  icases HiR with ⟨#HIR, #HRR⟩
  iapply (Rounds.wp_send_pointsTo 𝒱₀ ER (Rd part) (c : Thread nD τ) none (c' := (peer s c : Thread nD τ)) (src := prow (sent s c) (rows s) (sent_le s c)) (dst := qrow (slot s) (rows s) (slot_le s))
    (sS := .dma (sendQ s)) (sem := .dma (recvQ s)) (κ₁ := K (c, some (s, false))) (κ₂ := K (peer s c, some (s, true)))
    (r₁ := 0) (r₂ := 0) (d₁ := 0) (d₂ := 0) (fs := acc part (half s) (stg s) c) (fd := fd) (q := fullShare)
    (by rw [duties_send]; exact Finset.mem_singleton_self _) (by rw [duties_recv]; exact Finset.mem_singleton_self _)
    () () (Nc s) (amount_q s _) (amount_send part c s 0) (amount_recv part (peer s c) s 0) (Orem (s.val + 1) c) (Orem_peel s c) (W := W)
    ((sendPay_P part s c hs).trans (Entails.of_eq (payload_send part c s 0).symm)) ((landed_q part s c hs fd).trans (Entails.of_eq (payload_recv part (peer s c) s 0).symm)))
    $$ [HPs Hd HO HtS HtR]
  · isplitr; · iexact HIS
    isplitr; · iexact HIR
    isplitl [HPs]; · iapply (Entails.of_eq (ptsP_view c (sent_le s c) _)); iexact HPs
    isplitl [Hd]; · iapply (Entails.of_eq (ptsQ_view (peer s c) (slot_le s) _)); iexact Hd
    isplitl [HO]; · iexact HO
    isplitl [HtS]; · iexact HtS
    isplitr; · iexact HRS
    isplitl [HtR]; · iexact HtR
    iexact HRR
  iintro ⟨HcS, HO⟩
  iapply Hk
  isplitl [HcS HaS HaR HcR]
  · unfold Fly
    isplitl [HcS]; · iexact HcS
    isplitl [HaS]; · iexact HaS
    isplitl [HaR] <;> iassumption
  isplitl [HPk]; · unfold PK; iexact HPk
  iexists W; iexact HO

/-- Starting copy `s` of the all-gather: it takes the rows gathered so far and the partner's missing rows. -/
theorem step_sendAG (s : Fin 20) (hs : ¬ s.val < 10) (c p : Dev nD) (hp : p = peer s c) (n : ℕ) (hn : n = rows s)
    {offS offD : Fin 2 → ℕ} (hoS : offS = ![kept s c, 0]) (hoD : offD = ![kept s c, 0])
    {inbS : ∀ i : Fin 2, offS i + (![n, 512] : Fin 2 → ℕ) i ≤ S1024x512.size i}
    {inbD : ∀ i : Fin 2, offD i + (![n, 512] : Fin 2 → ℕ) i ≤ S1024x512.size i}
    {h1 : ∀ a, (Rect.unit (s := S1024x512) offS ![n, 512] inbS).stride a = 1} {h2 : ∀ a, (Rect.unit (s := S1024x512) offD ![n, 512] inbD).stride a = 1}
    (qS qR : DmaSem sig) (hqS : qS = sendQ s) (hqR : qR = recvQ s)
    {hsc : (Om.slice (Rect.unit (s := S1024x512) offD ![n, 512] inbD) h2 : Memref sig (Dev.tc p : Thread nD τ).2.kind .vmem ⟨2, ![n, 512]⟩ .f32).view.ref.isScScratch = false}
    {hsrc : (Om.slice (Rect.unit (s := S1024x512) offS ![n, 512] inbS) h1).view.WordExact}
    {hdst : (Om.slice (Rect.unit (s := S1024x512) offD ![n, 512] inbD) h2).view.WordExact}
    {hsem : DmaTarget.Typed .vmem (.dma qR) (.remote (Dev.tc p : Thread nD τ) (Om.slice (Rect.unit (s := S1024x512) offD ![n, 512] inbD) h2) (.dma qS) hsc)}
    {k : PUnit → Prog (TpuEff nD τ sig (Elt F) Λ₀ .tc) α} :
    iprop(env part K ∗ Ready s c ∗ OA part (half s) (stg s + 1) c ∗ Ow s.val c)
      ⊢ iprop(((Fly s c ∗ Ow (s.val + 1) c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Om.slice (Rect.unit (s := S1024x512) offS ![n, 512] inbS) h1)
                (.remote (Dev.tc p : Thread nD τ) (Om.slice (Rect.unit (s := S1024x512) offD ![n, 512] inbD) h2) (.dma qS) hsc) (.dma qR) hsrc hdst hsem) k) Q) := by
  subst hp hn hoS hoD hqS hqR
  unfold env Ready Pend OA Ow landPts
  rw [if_neg hs, ← rng_kept]
  unfold sent
  rw [peer_peer]
  iintro ⟨⟨#Hrec, #Hlev⟩, ⟨⟨HaS, HaR, HtS, HtR, HcR⟩, ⟨%fd, Hd⟩⟩, HP, ⟨%W, HO⟩⟩ Hk
  ihave #HiS := (records_get part K c (some (s, false))) $$ Hrec
  icases HiS with ⟨#HIS, #HRS⟩
  ihave #HiR := (records_get part K (peer s c) (some (s, true))) $$ Hrec
  icases HiR with ⟨#HIR, #HRR⟩
  iapply (Rounds.wp_send_pointsTo 𝒱₀ ER (Rd part) (c : Thread nD τ) none (c' := (peer s c : Thread nD τ))
    (src := orow (kept s c) (rows s) (kept_le s c)) (dst := orow (kept s c) (rows s) (kept_le s c))
    (sS := .dma (sendQ s)) (sem := .dma (recvQ s)) (κ₁ := K (c, some (s, false))) (κ₂ := K (peer s c, some (s, true)))
    (r₁ := 0) (r₂ := 0) (d₁ := 0) (d₂ := 0) (fs := outF part) (fd := fd) (q := fullShare)
    (by rw [duties_send]; exact Finset.mem_singleton_self _) (by rw [duties_recv]; exact Finset.mem_singleton_self _)
    () () (Nc s) (amount_o s _ _ _) (amount_send part c s 0) (amount_recv part (peer s c) s 0) (Orem (s.val + 1) c) (Orem_peel s c) (W := W)
    ((sendPay_O part s c hs).trans (Entails.of_eq (payload_send part c s 0).symm))
    ((gathered_o part s c hs fd).trans (Entails.of_eq (payload_recv part (peer s c) s 0).symm)))
    $$ [HP Hd HO HtS HtR]
  · isplitr; · iexact HIS
    isplitr; · iexact HIR
    isplitl [HP]; · iapply (Entails.of_eq (ptsO_view c (kept_le s c) _)); iexact HP
    isplitl [Hd]; · iapply (Entails.of_eq (ptsO_view (peer s c) (kept_le s c) _)); iexact Hd
    isplitl [HO]; · iexact HO
    isplitl [HtS]; · iexact HtS
    isplitr; · iexact HRS
    isplitl [HtR]; · iexact HtR
    iexact HRR
  iintro ⟨HcS, HO⟩
  iapply Hk
  isplitl [HcS HaS HaR HcR]
  · unfold Fly
    isplitl [HcS]; · iexact HcS
    isplitl [HaS]; · iexact HaS
    isplitl [HaR] <;> iassumption
  iexists W; iexact HO

omit [FloatOps F] in
theorem credP (s : Fin 20) {n : ℕ} (hn : n = rows s) {off : Fin 2 → ℕ} {inb : ∀ i : Fin 2, off i + (![n, 512] : Fin 2 → ℕ) i ≤ S1024x512.size i}
    {h : ∀ a, (Rect.unit (s := S1024x512) off ![n, 512] inb).stride a = 1} :
    (Pm.slice (Rect.unit (s := S1024x512) off ![n, 512] inb) h).view.dmaCredit = Nc s := by subst hn; rfl
omit [FloatOps F] in
theorem credQ (s : Fin 20) {n : ℕ} (hn : n = rows s) {off : Fin 2 → ℕ} {inb : ∀ i : Fin 2, off i + (![n, 512] : Fin 2 → ℕ) i ≤ S992x512.size i}
    {h : ∀ a, (Rect.unit (s := S992x512) off ![n, 512] inb).stride a = 1} :
    (Qm.slice (Rect.unit (s := S992x512) off ![n, 512] inb) h).view.dmaCredit = Nc s := by subst hn; rfl
omit [FloatOps F] in
theorem credO (s : Fin 20) {n : ℕ} (hn : n = rows s) {off : Fin 2 → ℕ} {inb : ∀ i : Fin 2, off i + (![n, 512] : Fin 2 → ℕ) i ≤ S1024x512.size i}
    {h : ∀ a, (Rect.unit (s := S1024x512) off ![n, 512] inb).stride a = 1} :
    (Om.slice (Rect.unit (s := S1024x512) off ![n, 512] inb) h).view.dmaCredit = Nc s := by subst hn; rfl

/-- The wait for copy `s`'s source rows to be free again. -/
theorem step_waitSend (s : Fin 20) (c : Dev nD) (n : ℕ) (q : DmaSem sig) (hq : q = sendQ s)
    {sp sp' : Space} {sh sh' : Shape} {e e' : EltTy} {src : Memref sig .tc sp' sh' e'} {dst : Memref sig .tc sp sh e}
    (hN : dst.view.dmaCredit = Nc s) {hsrc : src.view.WordExact} {hdst : dst.view.WordExact}
    {k : PUnit → Prog (TpuEff nD τ sig (Elt F) Λ₀ .tc) α} :
    iprop(env part K ∗ Fly s c ∗ Ow n c)
      ⊢ iprop(((Sent part s c ∗ Ow n c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold env Fly Ow
  rw [← hN]
  iintro ⟨⟨#Hrec, #Hlev⟩, ⟨HcS, HaS, HaR, HcR⟩, ⟨%W, HO⟩⟩ Hk
  ihave #HiS := (records_get part K c (some (s, false))) $$ Hrec
  icases HiS with ⟨#HIS, #HRS⟩
  iapply (Rounds.wp_wait_rest_token 𝒱₀ ER (Rd part) (c : Thread nD τ) none (κ := K (c, some (s, false))) (sm := .dma (sendQ s)) (k' := dst.view.dmaCredit)
      (wpE_waitDma2_eq 𝒱₀ (c : Thread nD τ) none Set.univ) (Set.mem_univ _) () (O := Orem n c) (W := W) (R := 0) (m := 0) (T := ∅)
      (by rw [Nat.zero_add, expect_send, hN])) $$ [HcS HO HaS]
  · isplitr; · iexact HIS
    isplitl [HcS]; · iexact HcS
    isplitl [HO]; · iexact HO
    isplitr
    · iapply (mayWait_low c (.dma (sendQ s)) (by rw [kind_send]; rfl) n); iexact Hlev
    iexact HaS
  iintro ⟨HO, HaS, -, Hpay⟩
  ihave Hp := (Entails.of_eq (rest_send part c s)) $$ Hpay
  imod (Rounds.cell_close ER (Rd part) (Set.mem_univ (K (c, some (s, false)))) (fun h => h) (R := 0 + 1) (duties_later part (sendCell c s))) $$ [HaS] with Hz
  · isplitr; · iexact HIS
    iexact HaS
  iapply Hk
  isplitr [HO]
  · unfold Sent
    rw [← hN]
    isplitl [Hz]; · iexact Hz
    isplitl [HaR]; · iexact HaR
    isplitl [HcR] <;> iassumption
  iexists _; iexact HO

/-- The wait for copy `s` of the partner to land, copy `s` of its own and all before it started. -/
theorem step_waitRecv (s : Fin 20) (c : Dev nD) (n : ℕ) (hsn : s.val < n) (q : DmaSem sig) (hq : q = recvQ s)
    {sp sp' : Space} {sh sh' : Shape} {e e' : EltTy} {src : Memref sig .tc sp' sh' e'} {dst : Memref sig .tc sp sh e}
    (hN : dst.view.dmaCredit = Nc s) {hsrc : src.view.WordExact} {hdst : dst.view.WordExact}
    {k : PUnit → Prog (TpuEff nD τ sig (Elt F) Λ₀ .tc) α} :
    iprop(env part K ∗ Sent part s c ∗ Ow n c)
      ⊢ iprop(((Done part s c ∗ Ow n c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold env Sent Ow
  rw [← hN]
  iintro ⟨⟨#Hrec, #Hlev⟩, ⟨Hz, HaR, HcR, Hs⟩, ⟨%W, HO⟩⟩ Hk
  ihave #HiR := (records_get part K c (some (s, true))) $$ Hrec
  icases HiR with ⟨#HIR, #HRR⟩
  iapply (Rounds.wp_wait_rest_token 𝒱₀ ER (Rd part) (c : Thread nD τ) none (κ := K (c, some (s, true))) (sm := .dma (recvQ s)) (k' := dst.view.dmaCredit)
      (wpE_waitDma2_eq 𝒱₀ (c : Thread nD τ) none Set.univ) (Set.mem_univ _) () (O := Orem n c) (W := W) (R := 0) (m := 0) (T := ∅)
      (by rw [Nat.zero_add, expect_recv, hN])) $$ [HcR HO HaR]
  · isplitr; · iexact HIR
    isplitl [HcR]; · iexact HcR
    isplitl [HO]; · iexact HO
    isplitr
    · iapply (mayWait_recv c s n hsn); iexact Hlev
    iexact HaR
  iintro ⟨HO, HaR, -, Hpay⟩
  ihave Hp := (Entails.of_eq (rest_recv part c s)) $$ Hpay
  imod (Rounds.cell_close ER (Rd part) (Set.mem_univ (K (c, some (s, true)))) (fun h => h) (R := 0 + 1) (duties_later part (recvCell c s))) $$ [HaR] with Hz'
  · isplitr; · iexact HIR
    iexact HaR
  iapply Hk
  isplitr [HO]
  · unfold Done
    isplitl [Hz]; · iexact Hz
    isplitl [Hz']; · iexact Hz'
    isplitl [Hs] <;> iassumption
  iexists _; iexact HO

/-- Both waits of an all-gather copy done, the rows gathered are those of the stage before. -/
theorem done_AG (s : Fin 20) (hs : ¬ s.val < 10) (c : Dev nD) : Done part s c ⊢ iprop(Over s c ∗ OA part (half s) (stg s) c) := by
  unfold Done Over OA sendPay recvPay
  rw [if_neg hs, if_neg hs]
  iintro ⟨H1, H2, H3, H4⟩
  isplitl [H1 H2]; · isplitl [H1] <;> iassumption
  iapply (ptsO_split s c _).2
  isplitl [H4] <;> iassumption

theorem done_RS (s : Fin 20) (hs : s.val < 10) (c : Dev nD) :
    Done part s c ⊣⊢ iprop(Over s c ∗ (∃ f, ptsP c (rowSet 1024 (sent s c) (rows s)) f) ∗ landed part s c) := by
  unfold Done Over sendPay recvPay
  rw [if_pos hs, if_pos hs]
  constructor
  · iintro ⟨H1, H2, H3, H4⟩
    isplitl [H1 H2]; · isplitl [H1] <;> iassumption
    isplitl [H3] <;> iassumption
  · iintro ⟨⟨H1, H2⟩, H3, H4⟩
    isplitl [H1]; · iexact H1
    isplitl [H2]; · iexact H2
    isplitl [H3] <;> iassumption

/-! ## Loads and stores -/

theorem step_loadP (c : Dev nD) {a n : ℕ} (h : a + n ≤ 1024) {S : Finset S1024x512.Idx} (hS : rowSet 1024 a n ⊆ S) (f : FVec F S1024x512 .f32)
    {off : Fin 2 → ℕ} (ho : off = ![a, 0]) {inb : ∀ i : Fin 2, off i + (![n, 512] : Fin 2 → ℕ) i ≤ S1024x512.size i}
    {hl : Pm.view.LoadsAt (Rect.unit (s := S1024x512) off ![n, 512] inb).toLoadRect}
    {k : ((⟨2, ![n, 512]⟩ : Shape).Idx → Elt F .f32) → Prog (TpuEff nD τ sig (Elt F) Λ₀ .tc) α} :
    ptsP c S f
      ⊢ iprop((ptsP c S f -∗ wp frame (wpE (defs₀ (F := F)) 𝒱₀ (c : Thread nD τ) none) Set.univ (k ((prow a n h).view.read (Elt F) f)) Q)
          -∗ wp frame (wpE (defs₀ (F := F)) 𝒱₀ (c : Thread nD τ) none) Set.univ
            (.op (.load Pm (Rect.unit (s := S1024x512) off ![n, 512] inb).toLoadRect hl) k) Q) := by
  subst ho
  have hset : (Pm.access (Rect.unit (s := S1024x512) ![a, 0] ![n, 512] inb)).set ⊆ S := by
    rw [show (Pm.access (Rect.unit (s := S1024x512) ![a, 0] ![n, 512] inb)).set = rowSet 1024 a n from prow_set a n h]; exact hS
  unfold ptsP
  iintro H Hk
  iapply (wp_load_rect 𝒱₀ (c : Thread nD τ) none Set.univ (m := Pm) (r := Rect.unit (s := S1024x512) ![a, 0] ![n, 512] inb)
    (S := S) (f := f) (q := fullShare) hset) $$ [H]
  · iexact H
  iintro H
  iapply Hk
  iexact H

theorem step_loadO (c : Dev nD) {a n : ℕ} (h : a + n ≤ 1024) {S : Finset S1024x512.Idx} (hS : rowSet 1024 a n ⊆ S) (f : FVec F S1024x512 .f32)
    {off : Fin 2 → ℕ} (ho : off = ![a, 0]) {inb : ∀ i : Fin 2, off i + (![n, 512] : Fin 2 → ℕ) i ≤ S1024x512.size i}
    {hl : Om.view.LoadsAt (Rect.unit (s := S1024x512) off ![n, 512] inb).toLoadRect}
    {k : ((⟨2, ![n, 512]⟩ : Shape).Idx → Elt F .f32) → Prog (TpuEff nD τ sig (Elt F) Λ₀ .tc) α} :
    ptsO c S f
      ⊢ iprop((ptsO c S f -∗ wp frame (wpE (defs₀ (F := F)) 𝒱₀ (c : Thread nD τ) none) Set.univ (k ((orow a n h).view.read (Elt F) f)) Q)
          -∗ wp frame (wpE (defs₀ (F := F)) 𝒱₀ (c : Thread nD τ) none) Set.univ
            (.op (.load Om (Rect.unit (s := S1024x512) off ![n, 512] inb).toLoadRect hl) k) Q) := by
  subst ho
  have hset : (Om.access (Rect.unit (s := S1024x512) ![a, 0] ![n, 512] inb)).set ⊆ S := by
    rw [show (Om.access (Rect.unit (s := S1024x512) ![a, 0] ![n, 512] inb)).set = rowSet 1024 a n from orow_set a n h]; exact hS
  unfold ptsO
  iintro H Hk
  iapply (wp_load_rect 𝒱₀ (c : Thread nD τ) none Set.univ (m := Om) (r := Rect.unit (s := S1024x512) ![a, 0] ![n, 512] inb)
    (S := S) (f := f) (q := fullShare) hset) $$ [H]
  · iexact H
  iintro H
  iapply Hk
  iexact H

/-- Loading a landed block: what the partner had of the rows kept. -/
theorem step_loadSlot (s : Fin 20) (c : Dev nD) (n : ℕ) (hn : n = rows s) (h : kept s c + n ≤ 1024)
    {off : Fin 2 → ℕ} (ho : off = ![slot s, 0]) {inb : ∀ i : Fin 2, off i + (![n, 512] : Fin 2 → ℕ) i ≤ S992x512.size i}
    {hl : Qm.view.LoadsAt (Rect.unit (s := S992x512) off ![n, 512] inb).toLoadRect}
    {k : ((⟨2, ![n, 512]⟩ : Shape).Idx → Elt F .f32) → Prog (TpuEff nD τ sig (Elt F) Λ₀ .tc) α} :
    landed part s c
      ⊢ iprop((landed part s c -∗ wp frame (wpE (defs₀ (F := F)) 𝒱₀ (c : Thread nD τ) none) Set.univ
              (k ((prow (kept s c) n h).view.read (Elt F) (acc part (half s) (stg s) (peer s c)))) Q)
          -∗ wp frame (wpE (defs₀ (F := F)) 𝒱₀ (c : Thread nD τ) none) Set.univ
            (.op (.load Qm (Rect.unit (s := S992x512) off ![n, 512] inb).toLoadRect hl) k) Q) := by
  subst ho hn
  unfold landed ptsQ
  iintro ⟨%f, %hf, H⟩ Hk
  iapply (wp_load_rect 𝒱₀ (c : Thread nD τ) none Set.univ (m := Qm) (r := Rect.unit (s := S992x512) ![slot s, 0] ![rows s, 512] inb)
    (S := rowSet 992 (slot s) (rows s)) (f := f) (q := fullShare)
    (by rw [show (Qm.access (Rect.unit (s := S992x512) ![slot s, 0] ![rows s, 512] inb)).set = rowSet 992 (slot s) (rows s) from qrow_set _ _ (slot_le s)])) $$ [H]
  · iexact H
  iintro H
  rw [show (Qm.access (Rect.unit (s := S992x512) ![slot s, 0] ![rows s, 512] inb)).read (Elt F) f
      = (prow (kept s c) (rows s) h).view.read (Elt F) (acc part (half s) (stg s) (peer s c)) from hf]
  iapply Hk
  iexists f
  isplitr; · ipureintro; exact hf
  iexact H

/-- Storing at a block what another content has there. -/
theorem step_storeP (c : Dev nD) {a n : ℕ} (h : a + n ≤ 1024) (f g : FVec F S1024x512 .f32)
    {off : Fin 2 → ℕ} (ho : off = ![a, 0]) {inb : ∀ i : Fin 2, off i + (![n, 512] : Fin 2 → ℕ) i ≤ S1024x512.size i}
    {w : (⟨2, ![n, 512]⟩ : Shape).Idx → Elt F .f32} (hw : w = (prow a n h).view.read (Elt F) g)
    {hx : (Pm.access (Rect.unit (s := S1024x512) off ![n, 512] inb)).Stores Finset.univ} {hm}
    {k : PUnit → Prog (TpuEff nD τ sig (Elt F) Λ₀ .tc) α} :
    ptsP c (rowSet 1024 a n) f
      ⊢ iprop((ptsP c (rowSet 1024 a n) g -∗ wp frame (wpE (defs₀ (F := F)) 𝒱₀ (c : Thread nD τ) none) Set.univ (k ⟨⟩) Q)
          -∗ wp frame (wpE (defs₀ (F := F)) 𝒱₀ (c : Thread nD τ) none) Set.univ
            (.op (.store Pm (Rect.unit (s := S1024x512) off ![n, 512] inb) w Finset.univ hx hm) k) Q) := by
  subst ho hw
  have hset : (Pm.access (Rect.unit (s := S1024x512) ![a, 0] ![n, 512] inb)).set = rowSet 1024 a n := prow_set a n h
  have he : ptsP c (rowSet 1024 a n) ((prow a n h).view.write (Elt F) f ((prow a n h).view.read (Elt F) g) Finset.univ) = ptsP c (rowSet 1024 a n) g := by
    unfold ptsP
    exact pointsTo_congr fun i hi => write_read_on (prow a n h).view f g i (by rw [prow_set]; exact hi)
  rw [← he]
  have hon : (Pm.access (Rect.unit (s := S1024x512) ![a, 0] ![n, 512] inb)).setOn Finset.univ ⊆ rowSet 1024 a n := by
    rw [View.setOn_univ, hset]
  unfold ptsP
  iintro H Hk
  iapply (wp_store 𝒱₀ (c : Thread nD τ) none Set.univ (m := Pm) (r := Rect.unit (s := S1024x512) ![a, 0] ![n, 512] inb)
    (S := rowSet 1024 a n) (f := f) (Mk := Finset.univ) hon) $$ [H]
  · iexact H
  iintro H
  iapply Hk
  iexact H

theorem step_storeO (c : Dev nD) {a n : ℕ} (h : a + n ≤ 1024) (f g : FVec F S1024x512 .f32)
    {off : Fin 2 → ℕ} (ho : off = ![a, 0]) {inb : ∀ i : Fin 2, off i + (![n, 512] : Fin 2 → ℕ) i ≤ S1024x512.size i}
    {w : (⟨2, ![n, 512]⟩ : Shape).Idx → Elt F .f32} (hw : w = (orow a n h).view.read (Elt F) g)
    {hx : (Om.access (Rect.unit (s := S1024x512) off ![n, 512] inb)).Stores Finset.univ} {hm}
    {k : PUnit → Prog (TpuEff nD τ sig (Elt F) Λ₀ .tc) α} :
    ptsO c (rowSet 1024 a n) f
      ⊢ iprop((ptsO c (rowSet 1024 a n) g -∗ wp frame (wpE (defs₀ (F := F)) 𝒱₀ (c : Thread nD τ) none) Set.univ (k ⟨⟩) Q)
          -∗ wp frame (wpE (defs₀ (F := F)) 𝒱₀ (c : Thread nD τ) none) Set.univ
            (.op (.store Om (Rect.unit (s := S1024x512) off ![n, 512] inb) w Finset.univ hx hm) k) Q) := by
  subst ho hw
  have hset : (Om.access (Rect.unit (s := S1024x512) ![a, 0] ![n, 512] inb)).set = rowSet 1024 a n := orow_set a n h
  have he : ptsO c (rowSet 1024 a n) ((orow a n h).view.write (Elt F) f ((orow a n h).view.read (Elt F) g) Finset.univ) = ptsO c (rowSet 1024 a n) g := by
    unfold ptsO
    exact pointsTo_congr fun i hi => write_read_on (orow a n h).view f g i (by rw [orow_set]; exact hi)
  rw [← he]
  have hon : (Om.access (Rect.unit (s := S1024x512) ![a, 0] ![n, 512] inb)).setOn Finset.univ ⊆ rowSet 1024 a n := by
    rw [View.setOn_univ, hset]
  unfold ptsO
  iintro H Hk
  iapply (wp_store 𝒱₀ (c : Thread nD τ) none Set.univ (m := Om) (r := Rect.unit (s := S1024x512) ![a, 0] ![n, 512] inb)
    (S := rowSet 1024 a n) (f := f) (Mk := Finset.univ) hon) $$ [H]
  · iexact H
  iintro H
  iapply Hk
  iexact H

theorem step_loadKept (s : Fin 20) (c : Dev nD) (n : ℕ) (hn : n = rows s) (h : kept s c + n ≤ 1024)
    {off : Fin 2 → ℕ} (ho : off = ![kept s c, 0]) {inb : ∀ i : Fin 2, off i + (![n, 512] : Fin 2 → ℕ) i ≤ S1024x512.size i}
    {hl : Pm.view.LoadsAt (Rect.unit (s := S1024x512) off ![n, 512] inb).toLoadRect}
    {k : ((⟨2, ![n, 512]⟩ : Shape).Idx → Elt F .f32) → Prog (TpuEff nD τ sig (Elt F) Λ₀ .tc) α} :
    PK part s c
      ⊢ iprop((PK part s c -∗ wp frame (wpE (defs₀ (F := F)) 𝒱₀ (c : Thread nD τ) none) Set.univ
              (k ((prow (kept s c) n h).view.read (Elt F) (acc part (half s) (stg s) c))) Q)
          -∗ wp frame (wpE (defs₀ (F := F)) 𝒱₀ (c : Thread nD τ) none) Set.univ
            (.op (.load Pm (Rect.unit (s := S1024x512) off ![n, 512] inb).toLoadRect hl) k) Q) := by
  subst hn
  exact step_loadP c h (Finset.Subset.refl _) _ ho

theorem step_storeKept (s : Fin 20) (c : Dev nD) (n : ℕ) (hn : n = rows s) (h : kept s c + n ≤ 1024)
    {off : Fin 2 → ℕ} (ho : off = ![kept s c, 0]) {inb : ∀ i : Fin 2, off i + (![n, 512] : Fin 2 → ℕ) i ≤ S1024x512.size i}
    {w : (⟨2, ![n, 512]⟩ : Shape).Idx → Elt F .f32}
    (hw : w = (addf ((prow (kept s c) n h).view.read (Elt F) (acc part (half s) (stg s) c) : FVec F ⟨2, ![n, 512]⟩ .f32)
      ((prow (kept s c) n h).view.read (Elt F) (acc part (half s) (stg s) (peer s c))) : FVec F ⟨2, ![n, 512]⟩ .f32))
    {hx : (Pm.access (Rect.unit (s := S1024x512) off ![n, 512] inb)).Stores Finset.univ} {hm}
    {k : PUnit → Prog (TpuEff nD τ sig (Elt F) Λ₀ .tc) α} :
    PK part s c
      ⊢ iprop((PA part (half s) (stg s + 1) c -∗ wp frame (wpE (defs₀ (F := F)) 𝒱₀ (c : Thread nD τ) none) Set.univ (k ⟨⟩) Q)
          -∗ wp frame (wpE (defs₀ (F := F)) 𝒱₀ (c : Thread nD τ) none) Set.univ
            (.op (.store Pm (Rect.unit (s := S1024x512) off ![n, 512] inb) w Finset.univ hx hm) k) Q) := by
  subst hn
  unfold PA PK
  rw [← rng_kept]
  exact step_storeP c h _ _ ho hw

/-- Both waits of a copy. -/
theorem step_waits (s : Fin 20) (c : Dev nD) (n : ℕ) (hsn : s.val < n) (q q' : DmaSem sig) (hq : q = sendQ s) (hq' : q' = recvQ s)
    {sp sp' : Space} {sh sh' : Shape} {e e' : EltTy} {src : Memref sig .tc sp' sh' e'} {dst : Memref sig .tc sp sh e}
    (hN : dst.view.dmaCredit = Nc s) {hsrc : src.view.WordExact} {hdst : dst.view.WordExact}
    {tp tp' : Space} {th th' : Shape} {d d' : EltTy} {src' : Memref sig .tc tp' th' d'} {dst' : Memref sig .tc tp th d}
    (hN' : dst'.view.dmaCredit = Nc s) {hsrc' : src'.view.WordExact} {hdst' : dst'.view.WordExact}
    {k : PUnit → Prog (TpuEff nD τ sig (Elt F) Λ₀ .tc) α} :
    iprop(env part K ∗ Fly s c ∗ Ow n c)
      ⊢ iprop(((Done part s c ∗ Ow n c) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q src dst hsrc hdst) (fun _ => .op (.waitDma2 q' src' dst' hsrc' hdst') k)) Q) := by
  iintro ⟨#He, HT, HO⟩ Hk
  iapply (step_waitSend part K s c n q hq hN) $$ [HT HO]
  · isplitr; · iexact He
    isplitl [HT]; · iexact HT
    iexact HO
  iintro ⟨HT, HO⟩
  iapply (step_waitRecv part K s c n hsn q' hq' hN') $$ [HT HO]
  · isplitr; · iexact He
    isplitl [HT]; · iexact HT
    iexact HO
  iintro H; iapply Hk; iexact H

/-- The two blocks of an addition are read: the rows kept, and the rows landed. -/
theorem step_read (s : Fin 20) (hs : s.val < 10) (c : Dev nD) (n : ℕ) (hn : n = rows s) (h : kept s c + n ≤ 1024)
    {off off' : Fin 2 → ℕ} (ho : off = ![kept s c, 0]) (ho' : off' = ![slot s, 0])
    {inb : ∀ i : Fin 2, off i + (![n, 512] : Fin 2 → ℕ) i ≤ S1024x512.size i} {inb' : ∀ i : Fin 2, off' i + (![n, 512] : Fin 2 → ℕ) i ≤ S992x512.size i}
    {hl : Pm.view.LoadsAt (Rect.unit (s := S1024x512) off ![n, 512] inb).toLoadRect}
    {hl' : Qm.view.LoadsAt (Rect.unit (s := S992x512) off' ![n, 512] inb').toLoadRect}
    {k : ((⟨2, ![n, 512]⟩ : Shape).Idx → Elt F .f32) → ((⟨2, ![n, 512]⟩ : Shape).Idx → Elt F .f32) → Prog (TpuEff nD τ sig (Elt F) Λ₀ .tc) α} :
    iprop(PK part s c ∗ Done part s c)
      ⊢ iprop(((PK part s c ∗ Done part s c) -∗ wp frame (wpE (defs₀ (F := F)) 𝒱₀ (c : Thread nD τ) none) Set.univ
              (k ((prow (kept s c) n h).view.read (Elt F) (acc part (half s) (stg s) c))
                ((prow (kept s c) n h).view.read (Elt F) (acc part (half s) (stg s) (peer s c)))) Q)
          -∗ wp frame (wpE (defs₀ (F := F)) 𝒱₀ (c : Thread nD τ) none) Set.univ
            (.op (.load Pm (Rect.unit (s := S1024x512) off ![n, 512] inb).toLoadRect hl)
              (fun a => .op (.load Qm (Rect.unit (s := S992x512) off' ![n, 512] inb').toLoadRect hl') (fun b => k a b))) Q) := by
  iintro ⟨HP, HD⟩ Hk
  iapply (step_loadKept part s c n hn h ho) $$ HP; iintro HP
  ihave HD := (done_RS part s hs c).1 $$ HD
  icases HD with ⟨Hov, Hs, Hl⟩
  iapply (step_loadSlot part s c n hn h ho') $$ Hl; iintro Hl
  iapply Hk
  isplitl [HP]; · iexact HP
  iapply (done_RS part s hs c).2
  isplitl [Hov]; · iexact Hov
  isplitl [Hs] <;> iassumption

/-- The sum is put over the rows kept, the value they held read once more and dropped. -/
theorem step_put (s : Fin 20) (c : Dev nD) (n : ℕ) (hn : n = rows s) (h : kept s c + n ≤ 1024)
    {off off' : Fin 2 → ℕ} (ho : off = ![kept s c, 0]) (ho' : off' = ![kept s c, 0])
    {inb : ∀ i : Fin 2, off i + (![n, 512] : Fin 2 → ℕ) i ≤ S1024x512.size i} {inb' : ∀ i : Fin 2, off' i + (![n, 512] : Fin 2 → ℕ) i ≤ S1024x512.size i}
    {w : (⟨2, ![n, 512]⟩ : Shape).Idx → Elt F .f32}
    (hw : w = (addf ((prow (kept s c) n h).view.read (Elt F) (acc part (half s) (stg s) c) : FVec F ⟨2, ![n, 512]⟩ .f32)
      ((prow (kept s c) n h).view.read (Elt F) (acc part (half s) (stg s) (peer s c))) : FVec F ⟨2, ![n, 512]⟩ .f32))
    {hl : Pm.view.LoadsAt (Rect.unit (s := S1024x512) off ![n, 512] inb).toLoadRect}
    {hx : (Pm.access (Rect.unit (s := S1024x512) off' ![n, 512] inb')).Stores Finset.univ} {hm}
    {k : PUnit → Prog (TpuEff nD τ sig (Elt F) Λ₀ .tc) α} :
    PK part s c
      ⊢ iprop((PA part (half s) (stg s + 1) c -∗ wp frame (wpE (defs₀ (F := F)) 𝒱₀ (c : Thread nD τ) none) Set.univ (k ⟨⟩) Q)
          -∗ wp frame (wpE (defs₀ (F := F)) 𝒱₀ (c : Thread nD τ) none) Set.univ
            (.op (.load Pm (Rect.unit (s := S1024x512) off ![n, 512] inb).toLoadRect hl)
              (fun _ => .op (.store Pm (Rect.unit (s := S1024x512) off' ![n, 512] inb') w Finset.univ hx hm) k)) Q) := by
  iintro HP Hk
  iapply (step_loadKept part s c n hn h ho) $$ HP; iintro HP
  iapply (step_storeKept part s c n hn h ho' hw) $$ HP; iintro HP
  iapply Hk; iexact HP

/-- Both waits of a copy of the all-gather: the rows it was sent with, and the partner's beside them. -/
theorem step_waitsAG (s : Fin 20) (hs : ¬ s.val < 10) (c : Dev nD) (n : ℕ) (hsn : s.val < n) (q q' : DmaSem sig) (hq : q = sendQ s) (hq' : q' = recvQ s)
    {sp sp' : Space} {sh sh' : Shape} {e e' : EltTy} {src : Memref sig .tc sp' sh' e'} {dst : Memref sig .tc sp sh e}
    (hN : dst.view.dmaCredit = Nc s) {hsrc : src.view.WordExact} {hdst : dst.view.WordExact}
    {tp tp' : Space} {th th' : Shape} {d d' : EltTy} {src' : Memref sig .tc tp' th' d'} {dst' : Memref sig .tc tp th d}
    (hN' : dst'.view.dmaCredit = Nc s) {hsrc' : src'.view.WordExact} {hdst' : dst'.view.WordExact}
    {k : PUnit → Prog (TpuEff nD τ sig (Elt F) Λ₀ .tc) α} :
    iprop(env part K ∗ Fly s c ∗ Ow n c)
      ⊢ iprop(((Over s c ∗ OA part (half s) (stg s) c ∗ Ow n c) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q src dst hsrc hdst) (fun _ => .op (.waitDma2 q' src' dst' hsrc' hdst') k)) Q) := by
  iintro H Hk
  iapply (step_waits part K s c n hsn q q' hq hq' hN hN') $$ H
  iintro ⟨HD, HO⟩
  ihave HD := (done_AG part s hs c) $$ HD
  icases HD with ⟨Hv, HA⟩
  iapply Hk
  isplitl [Hv]; · iexact Hv
  isplitl [HA] <;> iassumption

/-- The wait for a gathered block alone. -/
theorem step_landAG (s : Fin 20) (hs : ¬ s.val < 10) (c : Dev nD) (n : ℕ) (hsn : s.val < n) (q : DmaSem sig) (hq : q = recvQ s)
    {sp sp' : Space} {sh sh' : Shape} {e e' : EltTy} {src : Memref sig .tc sp' sh' e'} {dst : Memref sig .tc sp sh e}
    (hN : dst.view.dmaCredit = Nc s) {hsrc : src.view.WordExact} {hdst : dst.view.WordExact}
    {k : PUnit → Prog (TpuEff nD τ sig (Elt F) Λ₀ .tc) α} :
    iprop(env part K ∗ Sent part s c ∗ Ow n c)
      ⊢ iprop(((Over s c ∗ OA part (half s) (stg s) c ∗ Ow n c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro H Hk
  iapply (step_waitRecv part K s c n hsn q hq hN) $$ H
  iintro ⟨HD, HO⟩
  ihave HD := (done_AG part s hs c) $$ HD
  icases HD with ⟨Hv, HA⟩
  iapply Hk
  isplitl [Hv]; · iexact Hv
  isplitl [HA] <;> iassumption

/-- The rows of half `i` that a device has summed completely, read from the partial sums. -/
theorem step_loadSum (i : Fin 2) (c : Dev nD) (h : st i.val 5 c + 16 ≤ 1024)
    {off : Fin 2 → ℕ} (ho : off = ![st i.val 5 c, 0]) {inb : ∀ j : Fin 2, off j + (![16, 512] : Fin 2 → ℕ) j ≤ S1024x512.size j}
    {hl : Pm.view.LoadsAt (Rect.unit (s := S1024x512) off ![16, 512] inb).toLoadRect}
    {k : ((⟨2, ![16, 512]⟩ : Shape).Idx → Elt F .f32) → Prog (TpuEff nD τ sig (Elt F) Λ₀ .tc) α} :
    PA part i.val 5 c
      ⊢ iprop((PA part i.val 5 c -∗ wp frame (wpE (defs₀ (F := F)) 𝒱₀ (c : Thread nD τ) none) Set.univ
              (k ((orow (st i.val 5 c) 16 h).view.read (Elt F) (outF part))) Q)
          -∗ wp frame (wpE (defs₀ (F := F)) 𝒱₀ (c : Thread nD τ) none) Set.univ
            (.op (.load Pm (Rect.unit (s := S1024x512) off ![16, 512] inb).toLoadRect hl) k) Q) := by
  have he : PA part i.val 5 c = ptsP c (rowSet 1024 (st i.val 5 c) 16) (outF part) := by
    unfold PA ptsP rng
    exact pointsTo_congr fun x hx => outF_own part i c x hx
  rw [he]
  exact step_loadP c h (Finset.Subset.refl _) _ ho

/-- Those rows put into the result, the value it held read once more and dropped. -/
theorem step_putOut (i : Fin 2) (c : Dev nD) (h : st i.val 5 c + 16 ≤ 1024)
    {off off' : Fin 2 → ℕ} (ho : off = ![st i.val 5 c, 0]) (ho' : off' = ![st i.val 5 c, 0])
    {inb : ∀ j : Fin 2, off j + (![16, 512] : Fin 2 → ℕ) j ≤ S1024x512.size j} {inb' : ∀ j : Fin 2, off' j + (![16, 512] : Fin 2 → ℕ) j ≤ S1024x512.size j}
    {hl : Om.view.LoadsAt (Rect.unit (s := S1024x512) off ![16, 512] inb).toLoadRect}
    {hx : (Om.access (Rect.unit (s := S1024x512) off' ![16, 512] inb')).Stores Finset.univ} {hm}
    {k : PUnit → Prog (TpuEff nD τ sig (Elt F) Λ₀ .tc) α} :
    iprop(∃ f, ptsO c (rng i.val 5 c) f)
      ⊢ iprop((OA part i.val 5 c -∗ wp frame (wpE (defs₀ (F := F)) 𝒱₀ (c : Thread nD τ) none) Set.univ (k ⟨⟩) Q)
          -∗ wp frame (wpE (defs₀ (F := F)) 𝒱₀ (c : Thread nD τ) none) Set.univ
            (.op (.load Om (Rect.unit (s := S1024x512) off ![16, 512] inb).toLoadRect hl)
              (fun _ => .op (.store Om (Rect.unit (s := S1024x512) off' ![16, 512] inb') ((orow (st i.val 5 c) 16 h).view.read (Elt F) (outF part)) Finset.univ hx hm) k)) Q) := by
  unfold OA rng
  iintro ⟨%f, H⟩ Hk
  iapply (step_loadO c h (Finset.Subset.refl _) f ho) $$ H; iintro H
  iapply (step_storeO c h f (outF part) ho' rfl) $$ H; iintro H
  iapply Hk; iexact H

end Steps

end Cert.Exchange

end
-- ==== Proof.Parts.lean ====
/-
# The body, part by part: the reduce-scatter

Each lemma takes one printed part of the body from the copies' phases before it to those after it.
-/
module

public import proofs.«01_k».proof.Proof.Steps
public import proofs.«01_k».proof.Proof.Gen.KernelIdeal.Skeleton
public import Idealize.ShloMosaic.Lib.Pipeline.Value

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body at the buffers and semaphores the launch gives it. -/
abbrev atBufs {β : Type 1} (f : ∀ (arg0 : Memref sig .tc .vmem S1024x256 .f32) (harg0 : arg0.IsWhole) (arg1 : Memref sig .tc .vmem S256x128 .f32) (harg1 : arg1.IsWhole)
    (arg2 : Memref sig .tc .vmem S1024x2 .i32) (harg2 : arg2.IsWhole) (arg3 : Memref sig .tc .vmem S4x256x512 .f32) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S992x512 .f32) (harg6 : arg6.IsWhole) (arg7 arg8 arg9 arg10 arg11 arg12 arg13 arg14 : DmaSems sig S5), β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 cc0_scratch4 cc0_scratch5 cc0_scratch6 cc0_scratch7 cc0_scratch8 cc0_scratch9

section Parts
variable (part : Dev nD → FVec F S1024x512 .f32) (K : Dev nD × CellIx → ℕ) (c : Dev nD)

/-- The rows kept at a copy's stage, as device `d` has them before the stage's addition. -/
abbrev rd (s : Fin 20) (c d : Dev nD) (n : ℕ) (h : kept s c + n ≤ 1024) : FVec F ⟨2, ![n, 512]⟩ .f32 :=
  (prow (kept s c) n h).view.read (Elt F) (acc part (half s) (stg s) d)

theorem part5_spec (w1 w2 w3 w4 w5 : BitVec 32) {Q : (Σ' (_ : BitVec 32), FVec F S256x512 .f32) → sProp 𝕄} :
    iprop(env part K ∗ Ready 1 c ∗ PA part 1 0 c ∗ Fly 0 c ∗ PK part 0 c ∗ Ow 1 c
        ∗ (∀ v, (Fly 1 c ∗ PK part 1 c ∗ Done part 0 c ∗ PK part 0 c ∗ Ow 2 c)
            -∗ Q ⟨v, k0_pay16 (rd part 0 c c 256 (kept_le 0 c)) (rd part 0 c (peer 0 c) 256 (kept_le 0 c))⟩))
      ⊢ wp frame (wpE (defs₀ (F := F)) 𝒱₀ (c : Thread nD τ) none) Set.univ (atBufs (k0_part5 (F := F)) c w1 w2 w3 w4 w5) Q := by
  unfold atBufs
  rw [k0_part5_eq_skeleton]; unfold k0_part5_skel
  simp only [Prog.lift, Prog.bind_op, Prog.bind_ret, Prog.pure_eq_ret]
  iintro ⟨#He, HT1, HP1, HT0, HP0, HO, HQ⟩
  iapply (step_sendRS part K 1 (by decide) c _ (dev7_eq c) 256 rfl (off1_eqB c) rfl _ _ (by decide) (by decide)) $$ [HT1 HP1 HO]
  · isplitr; · iexact He
    isplitl [HT1]; · iexact HT1
    isplitl [HP1]; · iexact HP1
    iexact HO
  iintro ⟨HT1, HP1, HO⟩
  iapply (step_waits part K 0 c 2 (by decide) _ _ (by decide) (by decide) (credP 0 rfl) (credQ 0 rfl)) $$ [HT0 HO]
  · isplitr; · iexact He
    isplitl [HT0]; · iexact HT0
    iexact HO
  iintro ⟨HT0, HO⟩
  iapply (step_read part 0 (by decide) c 256 rfl (kept_le 0 c) (off2_eqA c) rfl) $$ [HP0 HT0]
  · isplitl [HP0]; · iexact HP0
    iexact HT0
  iintro ⟨HP0, HT0⟩
  rw [wp_ret]; imodintro
  iapply HQ
  isplitl [HT1]; · iexact HT1
  isplitl [HP1]; · iexact HP1
  isplitl [HT0]; · iexact HT0
  isplitl [HP0]; · iexact HP0
  iexact HO

theorem part6_spec (w1 w2 w3 w4 : BitVec 32) {Q : (Σ' (_ : BitVec 32), BitVec 32) → sProp 𝕄} :
    iprop(env part K ∗ PK part 0 c ∗ Fly 1 c ∗ PK part 1 c ∗ Ow 2 c
        ∗ (∀ r, (PA part 0 1 c ∗ Done part 1 c ∗ PA part 1 1 c ∗ Ow 2 c) -∗ Q r))
      ⊢ wp frame (wpE (defs₀ (F := F)) 𝒱₀ (c : Thread nD τ) none) Set.univ (atBufs (k0_part6 (F := F)) c w1 w2 w3 w4
          (k0_pay16 (rd part 0 c c 256 (kept_le 0 c)) (rd part 0 c (peer 0 c) 256 (kept_le 0 c)))) Q := by
  unfold atBufs
  rw [k0_part6_eq_skeleton]; unfold k0_part6_skel
  simp only [Prog.lift, Prog.bind_op, Prog.bind_ret, Prog.pure_eq_ret]
  iintro ⟨#He, HP0, HT1, HP1, HO, HQ⟩
  iapply (step_put part 0 c 256 rfl (kept_le 0 c) (off2_eqA c) (off2_eqA c) (shapeCast_self _ _)) $$ HP0
  iintro HP0
  iapply (step_waits part K 1 c 2 (by decide) _ _ (by decide) (by decide) (credP 1 rfl) (credQ 1 rfl)) $$ [HT1 HO]
  · isplitr; · iexact He
    isplitl [HT1]; · iexact HT1
    iexact HO
  iintro ⟨HT1, HO⟩
  iapply (step_read part 1 (by decide) c 256 rfl (kept_le 1 c) (off2_eqB c) rfl) $$ [HP1 HT1]
  · isplitl [HP1]; · iexact HP1
    iexact HT1
  iintro ⟨HP1, HT1⟩
  iapply (step_put part 1 c 256 rfl (kept_le 1 c) (off2_eqB c) (off2_eqB c) (shapeCast_self _ _)) $$ HP1
  iintro HP1
  rw [wp_ret]; imodintro
  iapply HQ
  isplitl [HP0]; · iexact HP0
  isplitl [HT1]; · iexact HT1
  isplitl [HP1]; · iexact HP1
  iexact HO

/-- Both copies of the second stage are started, and the first one's source is waited for. -/
theorem part7_spec (w1 w2 w3 : BitVec 32) {Q : (Σ' (_ : BitVec 32) (_ : BitVec 32), BitVec 32) → sProp 𝕄} :
    iprop(env part K ∗ Ready 2 c ∗ PA part 0 1 c ∗ Ready 3 c ∗ PA part 1 1 c ∗ Ow 2 c
        ∗ (∀ r, (Sent part 2 c ∗ PK part 2 c ∗ Fly 3 c ∗ PK part 3 c ∗ Ow 4 c) -∗ Q r))
      ⊢ wp frame (wpE (defs₀ (F := F)) 𝒱₀ (c : Thread nD τ) none) Set.univ (atBufs (k0_part7 (F := F)) c w1 w2 w3) Q := by
  unfold atBufs
  rw [k0_part7_eq_skeleton]; unfold k0_part7_skel
  simp only [Prog.lift, Prog.bind_op, Prog.bind_ret, Prog.pure_eq_ret]
  iintro ⟨#He, HT2, HA, HT3, HB, HO, HQ⟩
  iapply (step_sendRS part K 2 (by decide) c _ (dev8_eq c) 128 rfl (off3_eqA c) rfl _ _ (by decide) (by decide)) $$ [HT2 HA HO]
  · isplitr; · iexact He
    isplitl [HT2]; · iexact HT2
    isplitl [HA]; · iexact HA
    iexact HO
  iintro ⟨HT2, HA, HO⟩
  iapply (step_sendRS part K 3 (by decide) c _ (dev9_eq c) 128 rfl (off3_eqB c) rfl _ _ (by decide) (by decide)) $$ [HT3 HB HO]
  · isplitr; · iexact He
    isplitl [HT3]; · iexact HT3
    isplitl [HB]; · iexact HB
    iexact HO
  iintro ⟨HT3, HB, HO⟩
  iapply (step_waitSend part K 2 c 4 _ (by decide) (credP 2 rfl)) $$ [HT2 HO]
  · isplitr; · iexact He
    isplitl [HT2]; · iexact HT2
    iexact HO
  iintro ⟨HT2, HO⟩
  rw [wp_ret]; imodintro
  iapply HQ
  isplitl [HT2]; · iexact HT2
  isplitl [HA]; · iexact HA
  isplitl [HT3]; · iexact HT3
  isplitl [HB]; · iexact HB
  iexact HO

/-- The second stage's addition over the first half, and the sum of its second half. -/
theorem part8_spec (w1 w2 w3 w4 w5 : BitVec 32) {Q : FVec F S128x512 .f32 → sProp 𝕄} :
    iprop(env part K ∗ Sent part 2 c ∗ PK part 2 c ∗ Fly 3 c ∗ PK part 3 c ∗ Ow 4 c
        ∗ ((Done part 2 c ∗ PA part 0 2 c ∗ Done part 3 c ∗ PK part 3 c ∗ Ow 4 c) -∗ Q (k0_pay20 (rd part 3 c c 128 (kept_le 3 c)) (rd part 3 c (peer 3 c) 128 (kept_le 3 c)))))
      ⊢ wp frame (wpE (defs₀ (F := F)) 𝒱₀ (c : Thread nD τ) none) Set.univ (atBufs (k0_part8 (F := F)) c w1 w2 w3 w4 w5) Q := by
  unfold atBufs
  rw [k0_part8_eq_skeleton]; unfold k0_part8_skel
  simp only [Prog.lift, Prog.bind_op, Prog.bind_ret, Prog.pure_eq_ret]
  iintro ⟨#He, HT2, HA, HT3, HB, HO, HQ⟩
  iapply (step_waitRecv part K 2 c 4 (by decide) _ (by decide) (credQ 2 rfl)) $$ [HT2 HO]
  · isplitr; · iexact He
    isplitl [HT2]; · iexact HT2
    iexact HO
  iintro ⟨HT2, HO⟩
  iapply (step_read part 2 (by decide) c 128 rfl (kept_le 2 c) (off4_eqA c) rfl) $$ [HA HT2]
  · isplitl [HA]; · iexact HA
    iexact HT2
  iintro ⟨HA, HT2⟩
  iapply (step_put part 2 c 128 rfl (kept_le 2 c) (off4_eqA c) (off4_eqA c) (shapeCast_self _ _)) $$ HA; iintro HA
  iapply (step_waits part K 3 c 4 (by decide) _ _ (by decide) (by decide) (credP 3 rfl) (credQ 3 rfl)) $$ [HT3 HO]
  · isplitr; · iexact He
    isplitl [HT3]; · iexact HT3
    iexact HO
  iintro ⟨HT3, HO⟩
  iapply (step_read part 3 (by decide) c 128 rfl (kept_le 3 c) (off4_eqB c) rfl) $$ [HB HT3]
  · isplitl [HB]; · iexact HB
    iexact HT3
  iintro ⟨HB, HT3⟩
  iapply (step_loadKept part 3 c 128 rfl (kept_le 3 c) (off4_eqB c)) $$ HB; iintro HB
  rw [wp_ret]; imodintro
  iapply HQ
  isplitl [HT2]; · iexact HT2
  isplitl [HA]; · iexact HA
  isplitl [HT3]; · iexact HT3
  isplitl [HB]; · iexact HB
  iexact HO

/-- That sum is stored; the third stage's first copy is started. -/
theorem part9_spec (w1 w2 w3 : BitVec 32) {Q : (Σ' (_ : BitVec 32) (_ : BitVec 32) (_ : BitVec 32), BitVec 32) → sProp 𝕄} :
    iprop(env part K ∗ PK part 3 c ∗ Ready 4 c ∗ PA part 0 2 c ∗ Ow 4 c
        ∗ (∀ r, (PA part 1 2 c ∗ Fly 4 c ∗ PK part 4 c ∗ Ow 5 c) -∗ Q r))
      ⊢ wp frame (wpE (defs₀ (F := F)) 𝒱₀ (c : Thread nD τ) none) Set.univ (atBufs (k0_part9 (F := F)) c w1 w2 w3 (k0_pay20 (rd part 3 c c 128 (kept_le 3 c)) (rd part 3 c (peer 3 c) 128 (kept_le 3 c)))) Q := by
  unfold atBufs
  rw [k0_part9_eq_skeleton]; unfold k0_part9_skel
  simp only [Prog.lift, Prog.bind_op, Prog.bind_ret, Prog.pure_eq_ret]
  iintro ⟨#He, HB, HT4, HA, HO, HQ⟩
  iapply (step_storeKept part 3 c 128 rfl (kept_le 3 c) (off4_eqB c) (shapeCast_self _ _)) $$ HB; iintro HB
  iapply (step_sendRS part K 4 (by decide) c _ (dev10_eq c) 64 rfl (off5_eqA c) rfl _ _ (by decide) (by decide)) $$ [HT4 HA HO]
  · isplitr; · iexact He
    isplitl [HT4]; · iexact HT4
    isplitl [HA]; · iexact HA
    iexact HO
  iintro ⟨HT4, HA, HO⟩
  rw [wp_ret]; imodintro
  iapply HQ
  isplitl [HB]; · iexact HB
  isplitl [HT4]; · iexact HT4
  isplitl [HA]; · iexact HA
  iexact HO

/-- The third stage's second copy is started; its addition over the first half. -/
theorem part10_spec (w1 w2 w3 : BitVec 32) {Q : PUnit → sProp 𝕄} :
    iprop(env part K ∗ Ready 5 c ∗ PA part 1 2 c ∗ Fly 4 c ∗ PK part 4 c ∗ Ow 5 c
        ∗ (∀ r, (Sent part 5 c ∗ PK part 5 c ∗ Done part 4 c ∗ PA part 0 3 c ∗ Ow 6 c) -∗ Q r))
      ⊢ wp frame (wpE (defs₀ (F := F)) 𝒱₀ (c : Thread nD τ) none) Set.univ (atBufs (k0_part10 (F := F)) c w1 w2 w3) Q := by
  unfold atBufs
  rw [k0_part10_eq_skeleton]; unfold k0_part10_skel
  simp only [Prog.lift, Prog.bind_op, Prog.bind_ret, Prog.pure_eq_ret]
  iintro ⟨#He, HT5, HB, HT4, HA, HO, HQ⟩
  iapply (step_sendRS part K 5 (by decide) c _ (dev11_eq c) 64 rfl (off5_eqB c) rfl _ _ (by decide) (by decide)) $$ [HT5 HB HO]
  · isplitr; · iexact He
    isplitl [HT5]; · iexact HT5
    isplitl [HB]; · iexact HB
    iexact HO
  iintro ⟨HT5, HB, HO⟩
  iapply (step_waits part K 4 c 6 (by decide) _ _ (by decide) (by decide) (credP 4 rfl) (credQ 4 rfl)) $$ [HT4 HO]
  · isplitr; · iexact He
    isplitl [HT4]; · iexact HT4
    iexact HO
  iintro ⟨HT4, HO⟩
  iapply (step_read part 4 (by decide) c 64 rfl (kept_le 4 c) (off6_eqA c) rfl) $$ [HA HT4]
  · isplitl [HA]; · iexact HA
    iexact HT4
  iintro ⟨HA, HT4⟩
  iapply (step_put part 4 c 64 rfl (kept_le 4 c) (off6_eqA c) (off6_eqA c) (shapeCast_self _ _)) $$ HA; iintro HA
  iapply (step_waitSend part K 5 c 6 _ (by decide) (credP 5 rfl)) $$ [HT5 HO]
  · isplitr; · iexact He
    isplitl [HT5]; · iexact HT5
    iexact HO
  iintro ⟨HT5, HO⟩
  rw [wp_ret]; imodintro
  iapply HQ
  isplitl [HT5]; · iexact HT5
  isplitl [HB]; · iexact HB
  isplitl [HT4]; · iexact HT4
  isplitl [HA]; · iexact HA
  iexact HO

/-- The third stage's addition over the second half; the fourth stage's first copy is started. -/
theorem part11_spec (w1 w2 w3 : BitVec 32) {Q : (Σ' (_ : BitVec 32) (_ : BitVec 32) (_ : BitVec 32) (_ : BitVec 32) (_ : BitVec 1), BitVec 32) → sProp 𝕄} :
    iprop(env part K ∗ Sent part 5 c ∗ PK part 5 c ∗ Ready 6 c ∗ PA part 0 3 c ∗ Ow 6 c
        ∗ (∀ r, (Done part 5 c ∗ PA part 1 3 c ∗ Fly 6 c ∗ PK part 6 c ∗ Ow 7 c) -∗ Q r))
      ⊢ wp frame (wpE (defs₀ (F := F)) 𝒱₀ (c : Thread nD τ) none) Set.univ (atBufs (k0_part11 (F := F)) c w1 w2 w3) Q := by
  unfold atBufs
  rw [k0_part11_eq_skeleton]; unfold k0_part11_skel
  simp only [Prog.lift, Prog.bind_op, Prog.bind_ret, Prog.pure_eq_ret]
  iintro ⟨#He, HT5, HB, HT6, HA, HO, HQ⟩
  iapply (step_waitRecv part K 5 c 6 (by decide) _ (by decide) (credQ 5 rfl)) $$ [HT5 HO]
  · isplitr; · iexact He
    isplitl [HT5]; · iexact HT5
    iexact HO
  iintro ⟨HT5, HO⟩
  iapply (step_read part 5 (by decide) c 64 rfl (kept_le 5 c) (off6_eqB c) rfl) $$ [HB HT5]
  · isplitl [HB]; · iexact HB
    iexact HT5
  iintro ⟨HB, HT5⟩
  iapply (step_put part 5 c 64 rfl (kept_le 5 c) (off6_eqB c) (off6_eqB c) (shapeCast_self _ _)) $$ HB; iintro HB
  iapply (step_sendRS part K 6 (by decide) c _ (dev12_eq c) 32 rfl (off7_eqA c) rfl _ _ (by decide) (by decide)) $$ [HT6 HA HO]
  · isplitr; · iexact He
    isplitl [HT6]; · iexact HT6
    isplitl [HA]; · iexact HA
    iexact HO
  iintro ⟨HT6, HA, HO⟩
  rw [wp_ret]; imodintro
  iapply HQ
  isplitl [HT5]; · iexact HT5
  isplitl [HB]; · iexact HB
  isplitl [HT6]; · iexact HT6
  isplitl [HA]; · iexact HA
  iexact HO

/-- The fourth stage's second copy is started; its addition over the first half. -/
theorem part12_spec (w1 w2 w3 w4 w5 : BitVec 32) (b : BitVec 1) (w6 : BitVec 32) {Q : BitVec 32 → sProp 𝕄} :
    iprop(env part K ∗ Ready 7 c ∗ PA part 1 3 c ∗ Fly 6 c ∗ PK part 6 c ∗ Ow 7 c
        ∗ (∀ r, (Fly 7 c ∗ PK part 7 c ∗ Done part 6 c ∗ PA part 0 4 c ∗ Ow 8 c) -∗ Q r))
      ⊢ wp frame (wpE (defs₀ (F := F)) 𝒱₀ (c : Thread nD τ) none) Set.univ (atBufs (k0_part12 (F := F)) c w1 w2 w3 w4 w5 b w6) Q := by
  unfold atBufs
  rw [k0_part12_eq_skeleton]; unfold k0_part12_skel
  simp only [Prog.lift, Prog.bind_op, Prog.bind_ret, Prog.pure_eq_ret]
  iintro ⟨#He, HT7, HB, HT6, HA, HO, HQ⟩
  iapply (step_sendRS part K 7 (by decide) c _ (dev13_eq c) 32 rfl (off7_eqB c) rfl _ _ (by decide) (by decide)) $$ [HT7 HB HO]
  · isplitr; · iexact He
    isplitl [HT7]; · iexact HT7
    isplitl [HB]; · iexact HB
    iexact HO
  iintro ⟨HT7, HB, HO⟩
  iapply (step_waits part K 6 c 8 (by decide) _ _ (by decide) (by decide) (credP 6 rfl) (credQ 6 rfl)) $$ [HT6 HO]
  · isplitr; · iexact He
    isplitl [HT6]; · iexact HT6
    iexact HO
  iintro ⟨HT6, HO⟩
  iapply (step_read part 6 (by decide) c 32 rfl (kept_le 6 c) (off8_eqA c) rfl) $$ [HA HT6]
  · isplitl [HA]; · iexact HA
    iexact HT6
  iintro ⟨HA, HT6⟩
  iapply (step_put part 6 c 32 rfl (kept_le 6 c) (off8_eqA c) (off8_eqA c) (shapeCast_self _ _)) $$ HA; iintro HA
  rw [wp_ret]; imodintro
  iapply HQ
  isplitl [HT7]; · iexact HT7
  isplitl [HB]; · iexact HB
  isplitl [HT6]; · iexact HT6
  isplitl [HA]; · iexact HA
  iexact HO

/-- The fourth stage's addition over the second half. -/
theorem part13_spec (w1 w2 w3 w4 : BitVec 32) {Q : (Σ' (_ : BitVec 32), BitVec 32) → sProp 𝕄} :
    iprop(env part K ∗ Fly 7 c ∗ PK part 7 c ∗ Ow 8 c
        ∗ (∀ r, (Done part 7 c ∗ PA part 1 4 c ∗ Ow 8 c) -∗ Q r))
      ⊢ wp frame (wpE (defs₀ (F := F)) 𝒱₀ (c : Thread nD τ) none) Set.univ (atBufs (k0_part13 (F := F)) c w1 w2 w3 w4) Q := by
  unfold atBufs
  rw [k0_part13_eq_skeleton]; unfold k0_part13_skel
  simp only [Prog.lift, Prog.bind_op, Prog.bind_ret, Prog.pure_eq_ret]
  iintro ⟨#He, HT7, HB, HO, HQ⟩
  iapply (step_waits part K 7 c 8 (by decide) _ _ (by decide) (by decide) (credP 7 rfl) (credQ 7 rfl)) $$ [HT7 HO]
  · isplitr; · iexact He
    isplitl [HT7]; · iexact HT7
    iexact HO
  iintro ⟨HT7, HO⟩
  iapply (step_read part 7 (by decide) c 32 rfl (kept_le 7 c) (off8_eqB c) rfl) $$ [HB HT7]
  · isplitl [HB]; · iexact HB
    iexact HT7
  iintro ⟨HB, HT7⟩
  iapply (step_put part 7 c 32 rfl (kept_le 7 c) (off8_eqB c) (off8_eqB c) (shapeCast_self _ _)) $$ HB; iintro HB
  rw [wp_ret]; imodintro
  iapply HQ
  isplitl [HT7]; · iexact HT7
  isplitl [HB]; · iexact HB
  iexact HO

/-- Both copies of the last stage are started, and the first one's source is waited for. -/
theorem part14_spec (w1 w2 w3 : BitVec 32) {Q : (Σ' (_ : BitVec 32), BitVec 32) → sProp 𝕄} :
    iprop(env part K ∗ Ready 8 c ∗ PA part 0 4 c ∗ Ready 9 c ∗ PA part 1 4 c ∗ Ow 8 c
        ∗ (∀ r, (Sent part 8 c ∗ PK part 8 c ∗ Fly 9 c ∗ PK part 9 c ∗ Ow 10 c) -∗ Q r))
      ⊢ wp frame (wpE (defs₀ (F := F)) 𝒱₀ (c : Thread nD τ) none) Set.univ (atBufs (k0_part14 (F := F)) c w1 w2 w3) Q := by
  unfold atBufs
  rw [k0_part14_eq_skeleton]; unfold k0_part14_skel
  simp only [Prog.lift, Prog.bind_op, Prog.bind_ret, Prog.pure_eq_ret]
  iintro ⟨#He, HT8, HA, HT9, HB, HO, HQ⟩
  iapply (step_sendRS part K 8 (by decide) c _ (dev14_eq c) 16 rfl (off9_eqA c) rfl _ _ (by decide) (by decide)) $$ [HT8 HA HO]
  · isplitr; · iexact He
    isplitl [HT8]; · iexact HT8
    isplitl [HA]; · iexact HA
    iexact HO
  iintro ⟨HT8, HA, HO⟩
  iapply (step_sendRS part K 9 (by decide) c _ (dev15_eq c) 16 rfl (off9_eqB c) rfl _ _ (by decide) (by decide)) $$ [HT9 HB HO]
  · isplitr; · iexact He
    isplitl [HT9]; · iexact HT9
    isplitl [HB]; · iexact HB
    iexact HO
  iintro ⟨HT9, HB, HO⟩
  iapply (step_waitSend part K 8 c 10 _ (by decide) (credP 8 rfl)) $$ [HT8 HO]
  · isplitr; · iexact He
    isplitl [HT8]; · iexact HT8
    iexact HO
  iintro ⟨HT8, HO⟩
  rw [wp_ret]; imodintro
  iapply HQ
  isplitl [HT8]; · iexact HT8
  isplitl [HA]; · iexact HA
  isplitl [HT9]; · iexact HT9
  isplitl [HB]; · iexact HB
  iexact HO

/-- The last stage's additions, and the completed rows of the first half read. -/
theorem part15_spec (w1 w2 w3 : BitVec 32) {Q : Vec F S16x512 .f32 → sProp 𝕄} :
    iprop(env part K ∗ Sent part 8 c ∗ PK part 8 c ∗ Fly 9 c ∗ PK part 9 c ∗ Ow 10 c
        ∗ ((Done part 8 c ∗ PA part 0 5 c ∗ Done part 9 c ∗ PA part 1 5 c ∗ Ow 10 c) -∗ Q ((orow (st (0 : Fin 2).val 5 c) 16 (kept_le 8 c)).view.read (Elt F) (outF part))))
      ⊢ wp frame (wpE (defs₀ (F := F)) 𝒱₀ (c : Thread nD τ) none) Set.univ (atBufs (k0_part15 (F := F)) c w1 w2 w3) Q := by
  unfold atBufs
  rw [k0_part15_eq_skeleton]; unfold k0_part15_skel
  simp only [Prog.lift, Prog.bind_op, Prog.bind_ret, Prog.pure_eq_ret]
  iintro ⟨#He, HT8, HA, HT9, HB, HO, HQ⟩
  iapply (step_waitRecv part K 8 c 10 (by decide) _ (by decide) (credQ 8 rfl)) $$ [HT8 HO]
  · isplitr; · iexact He
    isplitl [HT8]; · iexact HT8
    iexact HO
  iintro ⟨HT8, HO⟩
  iapply (step_read part 8 (by decide) c 16 rfl (kept_le 8 c) (off10_eqA c) rfl) $$ [HA HT8]
  · isplitl [HA]; · iexact HA
    iexact HT8
  iintro ⟨HA, HT8⟩
  iapply (step_put part 8 c 16 rfl (kept_le 8 c) (off10_eqA c) (off10_eqA c) (shapeCast_self _ _)) $$ HA; iintro HA
  iapply (step_waits part K 9 c 10 (by decide) _ _ (by decide) (by decide) (credP 9 rfl) (credQ 9 rfl)) $$ [HT9 HO]
  · isplitr; · iexact He
    isplitl [HT9]; · iexact HT9
    iexact HO
  iintro ⟨HT9, HO⟩
  iapply (step_read part 9 (by decide) c 16 rfl (kept_le 9 c) (off10_eqB c) rfl) $$ [HB HT9]
  · isplitl [HB]; · iexact HB
    iexact HT9
  iintro ⟨HB, HT9⟩
  iapply (step_put part 9 c 16 rfl (kept_le 9 c) (off10_eqB c) (off10_eqB c) (shapeCast_self _ _)) $$ HB; iintro HB
  iapply (step_loadSum part 0 c (kept_le 8 c) (off10_eqA c)) $$ [HA]
  · iexact HA
  iintro HA
  rw [wp_ret]; imodintro
  iapply HQ
  isplitl [HT8]; · iexact HT8
  isplitl [HA]; · iexact HA
  isplitl [HT9]; · iexact HT9
  isplitl [HB]; · iexact HB
  iexact HO

end Parts

end Cert.Exchange

end
-- ==== Proof.Entry.lean ====
/-
# The entry handshake and the partial sums

The first four parts of the body: the handshake with the five partners, the loads of the operands, and the store of the
device's own partial sums.
-/
module

public import proofs.«01_k».proof.Proof.Parts

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem sep5 {M : Type} [URA M] (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ

section Entry
variable (part : Dev nD → FVec F S1024x512 .f32) (K : Dev nD × CellIx → ℕ) (c : Dev nD)

/-- A device's debt before its unit to the partner across bit `n`. -/
def OwB (n : ℕ) (c : Dev nD) : sProp 𝕄 := iprop(∃ W, owes (c : Thread nD τ) (Obar n c) W)

omit [FloatOps F] in
theorem barPay_own (b : Fin 5) : barPay (F := F) (flip b c) b = bigSep (Finset.univ.filter fun s => bitOf s = b) fun s => landPts s c := by
  unfold barPay
  refine bigSep_congr fun s hs => ?_
  rw [← (Finset.mem_filter.mp hs).2]
  show landPts s (peer s (peer s c)) = _
  rw [peer_peer]

/-- The unit to the partner across bit `b`, and with it the rows that partner's copies will write. -/
theorem step_signal {α : Type} {Q : α → sProp (MT nD τ sig Unit (Elt F) ℕ UU ℕ)} (b : Fin 5) (p : Dev nD) (hp : p = flip b c)
    {k : PUnit → Prog (TpuEff nD τ sig (Elt F) Λ₀ .tc) α} :
    iprop(env part K ∗ dutyTok ER (barCell (flip b c)) 0 b ∗ (bigSep (Finset.univ.filter fun s => bitOf s = b) fun s => landPts s c) ∗ OwB b.val c)
      ⊢ iprop((OwB (b.val + 1) c -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc p : Thread nD τ) barS (1#32).toInt) k) Q) := by
  subst hp
  unfold env OwB
  iintro ⟨⟨#Hrec, #Hlev⟩, Ht, Hl, ⟨%W, HO⟩⟩ Hk
  ihave #Hi := (records_get part K (flip b c) none) $$ Hrec
  icases Hi with ⟨#HI, #HR⟩
  iapply (Rounds.wp_signal 𝒱₀ ER (Rd part) (c : Thread nD τ) none (dst := (flip b c : Thread nD τ)) (κ := K (flip b c, none))
      (d := b) (by rw [duties_bar]; exact Finset.mem_univ _) ((amount_bar part (flip b c) b).trans (by decide)) () (Obar (b.val + 1) c) (Obar_peel b c))
    $$ [HO Ht Hl]
  · isplitr; · iexact HI
    isplitl [HO]; · iexact HO
    isplitl [Ht]; · iexact Ht
    isplitl [Hl]; · iapply (Entails.of_eq ((payload_bar part (flip b c) b).trans (barPay_own c b)).symm); iexact Hl
    iexact HR
  iintro HO
  iapply Hk
  iexists W; iexact HO

/-- The wait for the five partners: it brings every row the device's copies will write. -/
theorem step_enter {α : Type} {Q : α → sProp (MT nD τ sig Unit (Elt F) ℕ UU ℕ)}
    {k : PUnit → Prog (TpuEff nD τ sig (Elt F) Λ₀ .tc) α} :
    iprop(env part K ∗ atPos ER (barCell c) 0 ∅ 0 ∗ cred (tallyAt (barCell c) () 5) ∗ OwB 5 c)
      ⊢ iprop(((semVal (barCell c) 0 ∗ (bigSep Finset.univ fun s => landPts s (peer s c)) ∗ Ow 0 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (5#32).toInt) k) Q) := by
  unfold env OwB Ow
  rw [Obar_end]
  iintro ⟨⟨#Hrec, #Hlev⟩, Ha, Hc, ⟨%W, HO⟩⟩ Hk
  ihave #Hi := (records_get part K c none) $$ Hrec
  icases Hi with ⟨#HI, #HR⟩
  iapply (Rounds.wp_wait_rest_token 𝒱₀ ER (Rd part) (c : Thread nD τ) none (κ := K (c, none)) (k' := 5)
      (wpE_semWait_eq 𝒱₀ (c : Thread nD τ) none Set.univ) (Set.mem_univ _) () (O := Orem 0 c) (W := W) (R := 0) (m := 0) (T := ∅)
      (by rw [expect_bar])) $$ [Hc HO Ha]
  · isplitr; · iexact HI
    isplitl [Hc]; · iexact Hc
    isplitl [HO]; · iexact HO
    isplitr; · iapply (mayWait_bar c); iexact Hlev
    iexact Ha
  iintro ⟨HO, Ha, -, Hpay⟩
  ihave Hp := (Entails.of_eq (rest_bar part c)) $$ Hpay
  imod (Rounds.cell_close ER (Rd part) (Set.mem_univ (K (c, none))) (fun h => h) (R := 0 + 1) (duties_later part (barCell c))) $$ [Ha] with Hz
  · isplitr; · iexact HI
    iexact Ha
  iapply Hk
  isplitl [Hz]; · iexact Hz
  isplitl [Hp]; · iexact Hp
  iexists _; iexact HO

/-- The number a device finds itself to be. -/
abbrev wordOf (c : Dev nD) : BitVec 32 := Scalar.remsi (Scalar.divsi (Dev.word c) 1#32) 32#32

/-- The operands of a device, in the buffers its body reads. -/
def Ins (c : Dev nD) (x : FVec F S1024x256 .f32) (rW : FVec F S256x128 .f32) (rt : IVec S1024x2 32) (w : FVec F S4x256x512 .f32) : sProp 𝕄 :=
  iprop((((c : Thread nD τ).loc cc0_stg0_0) ↦{fullShare} x) ∗ (((c : Thread nD τ).loc cc0_stg1_0) ↦{fullShare} rW)
    ∗ (((c : Thread nD τ).loc cc0_stg2_0) ↦{fullShare} rt) ∗ (((c : Thread nD τ).loc cc0_stg3_0) ↦{fullShare} w))

/-- The first and second choices of expert. -/
abbrev first (rt : IVec S1024x2 32) : IVec S1024x1 32 :=
  (Memref.whole cc0_stg2_0).view.readAt (Elt F) (Rect.unit (s := S1024x2) ![0, 0] S1024x1.size inb_S1024x2_S1024x1_0_0).toLoadRect rt
abbrev second (rt : IVec S1024x2 32) : IVec S1024x1 32 :=
  (Memref.whole cc0_stg2_0).view.readAt (Elt F) (Rect.unit (s := S1024x2) ![0, 1] S1024x1.size inb_S1024x2_S1024x1_0_1).toLoadRect rt
/-- One of the device's own experts. -/
abbrev expert (w : FVec F S4x256x512 .f32) (j : ℕ) (h : ∀ a, (![j, 0, 0] : Fin 3 → ℕ) a + S1x256x512.size a ≤ S4x256x512.size a) : FVec F S1x256x512 .f32 :=
  (Memref.whole cc0_stg3_0).view.readAt (Elt F) (Rect.unit (s := S4x256x512) ![j, 0, 0] S1x256x512.size h).toLoadRect w

section Values
variable (x : FVec F S1024x256 .f32) (rW : FVec F S256x128 .f32) (rt : IVec S1024x2 32) (w : FVec F S4x256x512 .f32)
abbrev gate1 : FVec F S1024x1 .f32 := k0_pay9 (k0_pay2 x rW) (first (F := F) rt) (second (F := F) rt)
abbrev gate2 : FVec F S1024x1 .f32 := k0_pay10 (k0_pay2 x rW) (first (F := F) rt) (second (F := F) rt)
abbrev sum1 : FVec F S1024x512 .f32 :=
  k0_pay12 (wordOf c) (k0_pay1 x) (k0_pay2 x rW) (first (F := F) rt) (second (F := F) rt) (expert w 0 inb_S4x256x512_S1x256x512_0_0_0)
abbrev sum3 : FVec F S1024x512 .f32 :=
  k0_pay13 (wordOf c) (k0_pay1 x) (k0_pay4 (F := F) (first (F := F) rt)) (k0_pay5 (F := F) (second (F := F) rt)) (gate1 x rW rt) (gate2 x rW rt) k0_pay11 (sum1 c x rW rt w)
    (expert w 1 inb_S4x256x512_S1x256x512_1_0_0) (expert w 2 inb_S4x256x512_S1x256x512_2_0_0)
/-- A device's partial sums: over its four experts. -/
def partOf : FVec F S1024x512 .f32 :=
  k0_pay15 (k0_pay1 x) (k0_pay5 (F := F) (second (F := F) rt)) (gate2 x rW rt) (sum3 c x rW rt w) (Scalar.addi (Scalar.muli (wordOf c) 4#32) 3#32)
    (k0_pay14 (wordOf c) (k0_pay4 (F := F) (first (F := F) rt)) (gate1 x rW rt)) (expert w 3 inb_S4x256x512_S1x256x512_3_0_0)

theorem origin2 : (![0, 0] : Fin 2 → ℕ) = fun _ => 0 := funext fun a => by fin_cases a <;> rfl

omit [FloatOps F] in
theorem read_x (f : FVec F S1024x256 .f32) :
    (Memref.whole cc0_stg0_0 : Memref sig .tc .vmem S1024x256 .f32).view.readAt (Elt F) (Rect.unit (s := S1024x256) ![0, 0] S1024x256.size inb_S1024x256_S1024x256_0_0).toLoadRect f = f :=
  Memref.readAt_unit_zero (Elt F) cc0_stg0_0 origin2 _ f
omit [FloatOps F] in
theorem read_router (f : FVec F S256x128 .f32) :
    (Memref.whole cc0_stg1_0 : Memref sig .tc .vmem S256x128 .f32).view.readAt (Elt F) (Rect.unit (s := S256x128) ![0, 0] S256x128.size inb_S256x128_S256x128_0_0).toLoadRect f = f :=
  Memref.readAt_unit_zero (Elt F) cc0_stg1_0 origin2 _ f

/-- What a device holds for the handshake. -/
def Gate (c : Dev nD) : sProp 𝕄 :=
  iprop(atPos ER (barCell c) 0 ∅ 0 ∗ cred (tallyAt (barCell c) () 5) ∗ (bigSep Finset.univ fun b : Fin 5 => dutyTok ER (barCell (flip b c)) 0 b) ∗ OwB 0 c)

theorem part1_spec {Q : (Σ' (_ : Dev nD) (_ : BitVec 32) (_ : FVec F S1024x256 .f32), FVec F S1024x128 .f32) → sProp 𝕄} :
    iprop(env part K ∗ Ins c x rW rt w ∗ Gate c ∗ (bigSep Finset.univ fun s => landPts s c)
        ∗ ((Ins c x rW rt w ∗ semVal (barCell c) 0 ∗ (bigSep Finset.univ fun s => landPts s (peer s c)) ∗ Ow 0 c)
            -∗ Q ⟨c, wordOf c, k0_pay1 x, k0_pay2 x rW⟩))
      ⊢ wp frame (wpE (defs₀ (F := F)) 𝒱₀ (c : Thread nD τ) none) Set.univ (atBufs (k0_part1 (F := F))) Q := by
  unfold atBufs
  rw [k0_part1_eq_skeleton]; unfold k0_part1_skel
  simp only [semSignalWord, semWaitWord, Prog.lift, Prog.bind_op, Prog.bind_ret, Prog.pure_eq_ret, wp_deviceId]
  unfold Gate
  rw [← by_bit, sep5, sep5]
  iintro ⟨#He, HI, ⟨Ha, Hc, ⟨Ht0, Ht1, Ht2, Ht3, Ht4⟩, HO⟩, ⟨Hl0, Hl1, Hl2, Hl3, Hl4⟩, HQ⟩
  iapply (step_signal part K c 0 _ (dev1_eq c)) $$ [Ht0 Hl0 HO]
  · isplitr; · iexact He
    isplitl [Ht0]; · iexact Ht0
    isplitl [Hl0]; · iexact Hl0
    iexact HO
  iintro HO
  iapply (step_signal part K c 1 _ (dev2_eq c)) $$ [Ht1 Hl1 HO]
  · isplitr; · iexact He
    isplitl [Ht1]; · iexact Ht1
    isplitl [Hl1]; · iexact Hl1
    iexact HO
  iintro HO
  iapply (step_signal part K c 2 _ (dev3_eq c)) $$ [Ht2 Hl2 HO]
  · isplitr; · iexact He
    isplitl [Ht2]; · iexact Ht2
    isplitl [Hl2]; · iexact Hl2
    iexact HO
  iintro HO
  iapply (step_signal part K c 3 _ (dev4_eq c)) $$ [Ht3 Hl3 HO]
  · isplitr; · iexact He
    isplitl [Ht3]; · iexact Ht3
    isplitl [Hl3]; · iexact Hl3
    iexact HO
  iintro HO
  iapply (step_signal part K c 4 _ (dev5_eq c)) $$ [Ht4 Hl4 HO]
  · isplitr; · iexact He
    isplitl [Ht4]; · iexact Ht4
    isplitl [Hl4]; · iexact Hl4
    iexact HO
  iintro HO
  iapply (step_enter part K c) $$ [Ha Hc HO]
  · isplitr; · iexact He
    isplitl [Ha]; · iexact Ha
    isplitl [Hc]; · iexact Hc
    iexact HO
  iintro ⟨Hz, Hl, HO⟩
  unfold Ins
  icases HI with ⟨H0, H1, H2, H3⟩
  iapply (wp_load 𝒱₀ (c : Thread nD τ) none Set.univ (m := Memref.whole cc0_stg0_0) (Finset.subset_univ _)) $$ H0; iintro H0
  rw [read_x]
  iapply (wp_load 𝒱₀ (c : Thread nD τ) none Set.univ (m := Memref.whole cc0_stg1_0) (Finset.subset_univ _)) $$ H1; iintro H1
  rw [read_router]
  rw [wp_ret]; imodintro
  iapply HQ
  isplitl [H0 H1 H2 H3]
  · isplitl [H0]; · iexact H0
    isplitl [H1]; · iexact H1
    isplitl [H2]; · iexact H2
    iexact H3
  isplitl [Hz]; · iexact Hz
  isplitl [Hl]; · iexact Hl
  iexact HO

theorem part2_spec {Q : (Σ' (_ : IVec S1024x1 32) (_ : IVec S1024x1 32) (_ : FVec F S1024x1 .f32) (_ : FVec F S1024x1 .f32) (_ : FVec F S1024x512 .f32), FVec F S1024x512 .f32) → sProp 𝕄} :
    iprop(Ins c x rW rt w ∗ (Ins c x rW rt w -∗ Q ⟨k0_pay4 (F := F) (first (F := F) rt), k0_pay5 (F := F) (second (F := F) rt), gate1 x rW rt, gate2 x rW rt, k0_pay11, sum1 c x rW rt w⟩))
      ⊢ wp frame (wpE (defs₀ (F := F)) 𝒱₀ (c : Thread nD τ) none) Set.univ (atBufs (k0_part2 (F := F)) (wordOf c) (k0_pay1 x) (k0_pay2 x rW)) Q := by
  unfold atBufs
  rw [k0_part2_eq_skeleton]; unfold k0_part2_skel
  simp only [Prog.lift, Prog.bind_op, Prog.bind_ret, Prog.pure_eq_ret]
  unfold Ins
  iintro ⟨⟨H0, H1, H2, H3⟩, HQ⟩
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_stg3_0) (Finset.subset_univ _)) $$ H3; iintro H3
  rw [wp_ret]; imodintro
  iapply HQ
  isplitl [H0]; · iexact H0
  isplitl [H1]; · iexact H1
  isplitl [H2]; · iexact H2
  iexact H3

theorem part3_spec {Q : (Σ' (_ : FVec F S1024x512 .f32) (_ : BitVec 32), FVec F S1024x1 .f32) → sProp 𝕄} :
    iprop(Ins c x rW rt w ∗ (Ins c x rW rt w -∗ Q ⟨sum3 c x rW rt w, Scalar.addi (Scalar.muli (wordOf c) 4#32) 3#32, k0_pay14 (wordOf c) (k0_pay4 (F := F) (first (F := F) rt)) (gate1 x rW rt)⟩))
      ⊢ wp frame (wpE (defs₀ (F := F)) 𝒱₀ (c : Thread nD τ) none) Set.univ
          (atBufs (k0_part3 (F := F)) (wordOf c) (k0_pay1 x) (k0_pay4 (F := F) (first (F := F) rt)) (k0_pay5 (F := F) (second (F := F) rt)) (gate1 x rW rt) (gate2 x rW rt) k0_pay11 (sum1 c x rW rt w)) Q := by
  unfold atBufs
  rw [k0_part3_eq_skeleton]; unfold k0_part3_skel
  simp only [Prog.lift, Prog.bind_op, Prog.bind_ret, Prog.pure_eq_ret]
  unfold Ins
  iintro ⟨⟨H0, H1, H2, H3⟩, HQ⟩
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg3_0) (Finset.subset_univ _)) $$ H3; iintro H3
  rw [wp_ret]; imodintro
  iapply HQ
  isplitl [H0]; · iexact H0
  isplitl [H1]; · iexact H1
  isplitl [H2]; · iexact H2
  iexact H3

omit [FloatOps F] in
theorem rng_halves : rng 0 0 c ∪ rng 1 0 c = Finset.univ := by
  rw [← rowSet_univ 1024]
  exact rowSet_append 1024 0 512 512

/-- Both halves of the partial sums, from the whole of them. -/
theorem halves (hp : part c = partOf c x rW rt w) : ptsP c Finset.univ (partOf c x rW rt w) ⊣⊢ iprop(PA part 0 0 c ∗ PA part 1 0 c) := by
  unfold PA ptsP
  rw [← hp, ← rng_halves c]
  exact pointsTo_union (rowSet_disjoint (Or.inl (le_refl 512)))

omit [FloatOps F] in
theorem write_whole (f v : FVec F S1024x512 .f32) :
    ((Memref.whole cc0_scratch0 : Memref sig .tc .vmem S1024x512 .f32).access (Rect.unit (s := S1024x512) ![0, 0] S1024x512.size inb_S1024x512_S1024x512_0_0) : View sig .tc _ _ _).write (Elt F) f v Finset.univ = v :=
  Memref.write_access_unit_zero_univ (Elt F) cc0_scratch0 origin2 _ f v

/-- The partial sums are stored; the first copy is started. -/
theorem part4_spec (hp : part c = partOf c x rW rt w) {Q : (Σ' (_ : BitVec 32) (_ : BitVec 32) (_ : BitVec 32) (_ : BitVec 32), BitVec 32) → sProp 𝕄} :
    iprop(env part K ∗ Ins c x rW rt w ∗ (∃ f, ptsP c Finset.univ f) ∗ Ready 0 c ∗ Ow 0 c
        ∗ (∀ r, (Ins c x rW rt w ∗ Fly 0 c ∗ PK part 0 c ∗ PA part 1 0 c ∗ Ow 1 c) -∗ Q r))
      ⊢ wp frame (wpE (defs₀ (F := F)) 𝒱₀ (c : Thread nD τ) none) Set.univ
          (atBufs (k0_part4 (F := F)) c (wordOf c) (k0_pay1 x) (k0_pay5 (F := F) (second (F := F) rt)) (gate2 x rW rt) (sum3 c x rW rt w) (Scalar.addi (Scalar.muli (wordOf c) 4#32) 3#32)
            (k0_pay14 (wordOf c) (k0_pay4 (F := F) (first (F := F) rt)) (gate1 x rW rt))) Q := by
  unfold atBufs
  rw [k0_part4_eq_skeleton]; unfold k0_part4_skel
  simp only [Prog.lift, Prog.bind_op, Prog.bind_ret, Prog.pure_eq_ret]
  unfold Ins
  iintro ⟨#He, ⟨H0, H1, H2, H3⟩, ⟨%f, HP⟩, HT0, HO, HQ⟩
  iapply (wp_load 𝒱₀ (c : Thread nD τ) none Set.univ (m := Memref.whole cc0_stg3_0) (Finset.subset_univ _)) $$ H3; iintro H3
  unfold ptsP
  iapply (wp_load 𝒱₀ (c : Thread nD τ) none Set.univ (m := Memref.whole cc0_scratch0) (Finset.subset_univ _)) $$ HP; iintro HP
  iapply (wp_store 𝒱₀ (c : Thread nD τ) none Set.univ (m := Memref.whole cc0_scratch0) (r := Rect.unit (s := S1024x512) ![0, 0] S1024x512.size inb_S1024x512_S1024x512_0_0) (Mk := Finset.univ) (Finset.subset_univ _)) $$ HP; iintro HP
  rw [write_whole f]
  ihave HP := (show _ ⊢ _ from (halves part c x rW rt w hp).1) $$ [HP]
  · unfold ptsP; iexact HP
  icases HP with ⟨HA, HB⟩
  iapply (step_sendRS part K 0 (by decide) c _ (dev6_eq c) 256 rfl (off1_eqA c) rfl _ _ (by decide) (by decide)) $$ [HT0 HA HO]
  · isplitr; · iexact He
    isplitl [HT0]; · iexact HT0
    isplitl [HA]; · iexact HA
    iexact HO
  iintro ⟨HT0, HA, HO⟩
  rw [wp_ret]; imodintro
  iapply HQ
  isplitl [H0 H1 H2 H3]
  · isplitl [H0]; · iexact H0
    isplitl [H1]; · iexact H1
    isplitl [H2]; · iexact H2
    iexact H3
  isplitl [HT0]; · iexact HT0
  isplitl [HA]; · iexact HA
  isplitl [HB]; · iexact HB
  iexact HO

end Values

end Entry

end Cert.Exchange

end
-- ==== Proof.Fund.lean ====
/-
# Dealing the protocol out at launch

Every cell is opened at its one round; each device gets its cells' positions, the tokens of the duties it pays on its partners'
cells, and the credit for what its partners will land on its own.
-/
module

public import proofs.«01_k».proof.Proof.Entry
public import Idealize.ShloMosaic.Lib.Pipeline.Launch
public import Idealize.ShloMosaic.Lib.Pipeline.Kit
public import Idealize.ShloMosaic.Lib.Pipeline.Regions
public import proofs.«01_k».proof.Proof.Gen.KernelIdeal.Launch

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Fund
variable (part : Dev nD → FVec F S1024x512 .f32)

/-- The kernel's own semaphores: a send and a receive semaphore per copy. -/
abbrev osem : Fin 20 × Bool → SemLoc sig := fun | (s, false) => .dma (sendQ s) | (s, true) => .dma (recvQ s)

theorem ownSemFacts : Pipeline.OwnSemFacts cfg0.spec osem := by decide +kernel

theorem cellAt_kind (c : Dev nD) : ∀ x : CellIx, kind (cellAt c x).2 = match x with | none => .bar | some (s, false) => .send s | some (s, true) => .recv s
  | none => kind_bar
  | some (s, false) => kind_send s
  | some (s, true) => kind_recv s

theorem cellAt_injective : Function.Injective (fun p : Dev nD × CellIx => cellAt p.1 p.2) := by
  have hd : ∀ (c : Dev nD) (x : CellIx), (cellAt c x).1.1 = c := fun c x => by rcases x with _ | ⟨s, _ | _⟩ <;> rfl
  rintro ⟨c, x⟩ ⟨c', x'⟩ h
  have h1 : c = c' := by rw [← hd c x, ← hd c' x']; exact congrArg (fun g : GSem nD τ sig => g.1.1) h
  have h2 : kind (cellAt c x).2 = kind (cellAt c' x').2 := congrArg (fun g : GSem nD τ sig => kind g.2) h
  rw [cellAt_kind, cellAt_kind] at h2
  subst h1
  rcases x with _ | ⟨s, _ | _⟩ <;> rcases x' with _ | ⟨s', _ | _⟩ <;> simp only [Kind.send.injEq, Kind.recv.injEq, reduceCtorEq] at h2 <;> first | rfl | (subst h2; rfl)

/-- All cells, and all their duties: five on a barrier cell, one on each of the others. -/
def exCells : Finset (GSem nD τ sig) := Finset.univ.map ⟨_, cellAt_injective⟩
abbrev tokOf (p : Dev nD × (Fin 5 ⊕ Fin 20 × Bool)) : GSem nD τ sig × ℕ × Fin 5 := match p.2 with
  | .inl b => (barCell p.1, 0, b) | .inr y => (cellAt p.1 (some y), 0, 0)
theorem tokOf_injective : Function.Injective tokOf := by
  rintro ⟨c, x⟩ ⟨c', x'⟩ h
  have e : ∀ p : Dev nD × (Fin 5 ⊕ Fin 20 × Bool), (tokOf p).1 = cellAt p.1 (match p.2 with | .inl _ => none | .inr y => some y) := by rintro ⟨c, _ | y⟩ <;> rfl
  have h1 := congrArg (fun t : GSem nD τ sig × ℕ × Fin 5 => t.1) h
  have h2 := cellAt_injective (a₁ := (_, _)) (a₂ := (_, _)) ((e _).symm.trans (h1.trans (e _)))
  obtain ⟨rfl, h3⟩ := Prod.ext_iff.mp h2
  rcases x with b | y <;> rcases x' with b' | y' <;> simp only [Option.some.injEq, reduceCtorEq] at h3
  · have := congrArg (fun t : GSem nD τ sig × ℕ × Fin 5 => t.2.2) h
    dsimp only at this
    rw [show b = b' from this]
  · rw [h3]
def exToks : Finset (GSem nD τ sig × ℕ × Fin 5) := Finset.univ.map ⟨tokOf, tokOf_injective⟩

def u₀ : UU := (initOf (Pipeline.cells cfgs cellOf_inj) (Pipeline.launchToks cfgs cellOf_inj), initOf exCells exToks)

/-- The duty tokens of a device's own cells. -/
def toks (c : Dev nD) : sProp 𝕄 :=
  iprop((bigSep Finset.univ fun b : Fin 5 => dutyTok ER (barCell c) 0 b)
    ∗ (bigSep Finset.univ fun s : Fin 20 => dutyTok ER (sendCell c s) 0 0) ∗ (bigSep Finset.univ fun s : Fin 20 => dutyTok ER (recvCell c s) 0 0))

/-- What the launch element deals a device. -/
def G (c : Dev nD) : sProp 𝕄 :=
  iprop((bigSep Finset.univ fun x : CellIx => roundState ER (Rd part) (cellAt c x) 0)
    ∗ (bigSep Finset.univ fun x : CellIx => iprop(atPos ER (cellAt c x) 0 ∅ 0 ∗ reached ER (cellAt c x) 0)) ∗ toks c)

omit [FloatOps F] in
/-- Something per barrier, send and receive cell of a device, taken apart. -/
theorem bigSep_cells (Φ : CellIx → sProp 𝕄) : bigSep Finset.univ Φ
    = iprop(Φ none ∗ (bigSep Finset.univ fun s => Φ (some (s, false))) ∗ (bigSep Finset.univ fun s => Φ (some (s, true)))) := by
  rw [bigSep_univ_equiv (Equiv.optionEquivSumPUnit.{0, 0} (Fin 20 × Bool)).symm Φ, bigSep_univ_sum, bigSep_univ_prod, bigSep_univ_comm,
    bigSep_univ_eq_bigSepL [false, true] (by decide) (by decide), bigSep_univ_eq_bigSepL [PUnit.unit] (by decide) (by decide)]
  exact BI.equiv_iff.mp ⟨BI.sep_comm, BI.sep_comm⟩

theorem fund_cells : BI.own (ER (initOf exCells exToks)) ⊢ (|==> bigSep Finset.univ (G part) : sProp 𝕄) := by
  have hX (Φ : GSem nD τ sig → sProp 𝕄) : bigSep exCells Φ = bigSep Finset.univ fun c : Dev nD => bigSep Finset.univ fun x : CellIx => Φ (cellAt c x) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    refine bigSep_congr fun c _ => ?_
    unfold toks
    rw [bigSep_univ_sum, bigSep_univ_prod, bigSep_univ_comm, bigSep_univ_eq_bigSepL [false, true] (by decide) (by decide)]
    rfl
  iintro HX
  imod (Rounds.fund ER (Rd part) exCells exToks) $$ HX with ⟨Hst, Hr, Hat, Htok⟩
  imodintro
  ihave Hst' := (Entails.of_eq (hX fun g => roundState ER (Rd part) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The cells opened -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun s => Over s c := by
  unfold Pipeline.ownSems0 Over
  rw [bigSep_univ_prod]
  exact bigSep_congr fun s _ => (bigSep_univ_eq_bigSepL [false, true] (by decide) (by decide) _)
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CellIx => semVal (cellAt c x) 0 : sProp 𝕄) := by
  rw [ownSems0_eq, unscopedSems0_eq, bigSep_cells]
  unfold Over
  rw [bigSep_sep']
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G part c)
      ⊢ |={Set.univ}=> iprop((bigSep Finset.univ fun x : CellIx => iprop(∃ κ : ℕ, cellInv ER (Rd part) κ (cellAt c x)))
          ∗ (bigSep Finset.univ fun x : CellIx => iprop(atPos ER (cellAt c x) 0 ∅ 0 ∗ reached ER (cellAt c x) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun x : CellIx => semVal (cellAt c x) 0) ∗ bigSep Finset.univ fun x : CellIx => roundState ER (Rd part) (cellAt c x) 0)
      ⊢ (|={Set.univ}=> bigSep Finset.univ fun x => iprop(∃ κ : ℕ, cellInv ER (Rd part) κ (cellAt c x)) : sProp 𝕄) from by
        rw [← bigSep_sep']
        exact (bigSep_mono fun x _ => (Rounds.body_intro ER (Rd part) (cellAt c x)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The tokens dealt to the devices that pay -/

def flipE (b : Fin 5) : Dev nD ≃ Dev nD := ⟨flip b, flip b, flip_flip b, flip_flip b⟩
def peerE (s : Fin 20) : Dev nD ≃ Dev nD := ⟨peer s, peer s, peer_peer s, peer_peer s⟩

/-- The tokens of the duties a device pays. -/
def payToks (c : Dev nD) : sProp 𝕄 :=
  iprop((bigSep Finset.univ fun b : Fin 5 => dutyTok ER (barCell (flip b c)) 0 b)
    ∗ (bigSep Finset.univ fun s : Fin 20 => dutyTok ER (sendCell c s) 0 0) ∗ (bigSep Finset.univ fun s : Fin 20 => dutyTok ER (recvCell (peer s c) s) 0 0))

omit [FloatOps F] in
theorem toks_across : (bigSep Finset.univ fun c : Dev nD => (toks c : sProp 𝕄)) = bigSep Finset.univ fun c : Dev nD => payToks c := by
  unfold toks payToks
  have hb : (bigSep Finset.univ fun c : Dev nD => bigSep Finset.univ fun b : Fin 5 => (dutyTok ER (barCell c) 0 b : sProp 𝕄))
      = bigSep Finset.univ fun c : Dev nD => bigSep Finset.univ fun b : Fin 5 => dutyTok ER (barCell (flip b c)) 0 b := by
    rw [bigSep_univ_comm, bigSep_univ_comm (fun (c : Dev nD) (b : Fin 5) => (dutyTok ER (barCell (flip b c)) 0 b : sProp 𝕄))]
    exact bigSep_congr fun b _ => bigSep_univ_equiv (flipE b) _
  have hs : (bigSep Finset.univ fun c : Dev nD => bigSep Finset.univ fun s : Fin 20 => (dutyTok ER (recvCell c s) 0 0 : sProp 𝕄))
      = bigSep Finset.univ fun c : Dev nD => bigSep Finset.univ fun s : Fin 20 => dutyTok ER (recvCell (peer s c) s) 0 0 := by
    rw [bigSep_univ_comm, bigSep_univ_comm (fun (c : Dev nD) (s : Fin 20) => (dutyTok ER (recvCell (peer s c) s) 0 0 : sProp 𝕄))]
    exact bigSep_congr fun s _ => bigSep_univ_equiv (peerE s) _
  simp only [bigSep_sep', hb, hs]

/-- A device's share: the positions at its cells and the tokens it pays with. -/
def Share (c : Dev nD) : sProp 𝕄 := iprop((bigSep Finset.univ fun x : CellIx => atPos ER (cellAt c x) 0 ∅ 0) ∗ payToks c)

/-- What the launch step leaves each device. -/
def G' (c : Dev nD) : sProp 𝕄 := iprop(∃ K, records part K ∗ Share c)

theorem regroup :
    (bigSep Finset.univ fun c : Dev nD => iprop((bigSep Finset.univ fun x : CellIx => iprop(∃ κ : ℕ, cellInv ER (Rd part) κ (cellAt c x)))
          ∗ (bigSep Finset.univ fun x : CellIx => iprop(atPos ER (cellAt c x) 0 ∅ 0 ∗ reached ER (cellAt c x) 0)) ∗ toks c) : sProp 𝕄)
      ⊢ bigSep Finset.univ (G' part) := by
  rw [bigSep_sep', bigSep_sep', ← bigSep_univ_prod (fun p : Dev nD × CellIx => iprop(∃ κ : ℕ, cellInv ER (Rd part) κ (cellAt p.1 p.2))),
    bigSep_congr (s := Finset.univ) (fun (c : Dev nD) _ => bigSep_sep' Finset.univ (fun x : CellIx => (atPos ER (cellAt c x) 0 ∅ 0 : sProp 𝕄)) (fun x => reached ER (cellAt c x) 0)),
    bigSep_sep', ← bigSep_univ_prod (fun p : Dev nD × CellIx => (reached ER (cellAt p.1 p.2) 0 : sProp 𝕄)), toks_across]
  iintro ⟨HI, ⟨Hat, #HR⟩, Htok⟩
  ihave HK := (BI.bigSep_exists_pi Finset.univ (fun (p : Dev nD × CellIx) (κ : ℕ) => (cellInv ER (Rd part) κ (cellAt p.1 p.2) : sProp 𝕄))) $$ HI
  icases HK with ⟨%K, #HI⟩
  have hg : ∀ c ∈ (Finset.univ : Finset (Dev nD)), iprop(records part K ∗ Share c) ⊢ G' part c := fun c _ => by
    unfold G'; iintro H; iexists K; iexact H
  have hp : iprop(records part K ∗ bigSep Finset.univ fun c : Dev nD => Share c) ⊢ bigSep Finset.univ (G' part) :=
    (sep_mono_left (BI.bigSep_of_persistent Finset.univ (records part K))).trans (by rw [← bigSep_sep']; exact bigSep_mono hg)
  iapply hp
  isplitr
  · unfold records
    rw [bigSep_sep']
    isplitl; · iexact HI
    iexact HR
  · unfold Share
    rw [bigSep_sep']
    isplitl [Hat]; · iexact Hat
    iexact Htok

/-- The launch step, over all devices at once. -/
theorem glob : (bigSep Finset.univ fun c => iprop(Pipeline.ownSems0 (Ix := Unit) (Name := ℕ) (U := UU) (Lvl := ℕ) (Val := Elt F) (τ := τ) osem c
      ∗ unscopedSems0 c ∗ G part c) : sProp 𝕄) ⊢ |={Set.univ}=> bigSep Finset.univ (G' part) :=
  ((bigSep_mono fun c _ => core_alloc part c).trans (bigSep_fupd _ _)).trans (BI.fupd_mono (regroup part))

/-! ## The credit dealt at launch -/

theorem bar_tally (d c : Dev nD) (b : Fin 5) : (tallyAt (barCell (flip b d)) () 1 : CellTallies nD τ sig Unit) (barCell c) () = if d = flip b c then 1 else 0 := by
  rw [tallyAt_apply]
  refine if_congr ⟨fun h => ?_, fun h => ⟨?_, rfl⟩⟩ rfl rfl
  · have := congrArg (fun g : GSem nD τ sig => g.1.1) h.1
    rw [show c = flip b d from this, flip_flip]
  · rw [h, flip_flip]
theorem recv_tally (d c : Dev nD) (s s' : Fin 20) : (tallyAt (recvCell (peer s' d) s') () (Nc s') : CellTallies nD τ sig Unit) (recvCell c s) ()
    = if s' = s then (if d = peer s c then Nc s else 0) else 0 := by
  rw [tallyAt_apply]
  by_cases hs : s' = s
  · subst hs
    rw [if_pos rfl]
    refine if_congr ⟨fun h => ?_, fun h => ⟨?_, rfl⟩⟩ rfl rfl
    · have := congrArg (fun g : GSem nD τ sig => g.1.1) h.1
      rw [show c = peer s' d from this, peer_peer]
    · rw [h, peer_peer]
  · rw [if_neg hs, if_neg]
    rintro ⟨h, -⟩
    have := congrArg (fun g : GSem nD τ sig => kind g.2) h
    dsimp only at this
    rw [kind_recv, kind_recv] at this
    exact hs (Kind.recv.inj this).symm
theorem bar_recv_tally (d c : Dev nD) (s : Fin 20) : (tallyAt (recvCell d s) () (Nc s) : CellTallies nD τ sig Unit) (barCell c) () = 0 := by
  rw [tallyAt_apply, if_neg]
  rintro ⟨h, -⟩
  have := congrArg (fun g : GSem nD τ sig => kind g.2) h
  dsimp only at this
  rw [kind_recv, kind_bar] at this
  exact absurd this (by simp)
theorem recv_bar_tally (d c : Dev nD) (s : Fin 20) : (tallyAt (barCell d) () 1 : CellTallies nD τ sig Unit) (recvCell c s) () = 0 := by
  rw [tallyAt_apply, if_neg]
  rintro ⟨h, -⟩
  have := congrArg (fun g : GSem nD τ sig => kind g.2) h
  dsimp only at this
  rw [kind_recv, kind_bar] at this
  exact absurd this (by simp)

theorem Obar_apply (d : Dev nD) (g : GSem nD τ sig) : Obar 0 d g ()
    = (∑ s : Fin 20, (tallyAt (recvCell (peer s d) s) () (Nc s) : CellTallies nD τ sig Unit) g ()) + ∑ b : Fin 5, (tallyAt (barCell (flip b d)) () 1 : CellTallies nD τ sig Unit) g () := by
  unfold Obar Orem
  rw [Finset.filter_true_of_mem fun s _ => Nat.zero_le _, Finset.filter_true_of_mem fun s _ => Nat.zero_le _,
    Pi.add_apply, Finsupp.add_apply, Finset.sum_apply, Finset.sum_apply, Finsupp.finset_sum_apply, Finsupp.finset_sum_apply]

theorem launch_bar (c : Dev nD) :
    tallyOn (barCell c) (launchCredit (Pipeline.owing (Obar 0)) 0 (barCell c)) = (tallyAt (barCell c) () 5 : CellTallies nD τ sig Unit) := by
  unfold tallyAt; refine congrArg _ (Finsupp.ext fun u => ?_); cases u
  rw [Pipeline.launchCredit_owing, Finsupp.single_eq_same]
  simp only [Obar_apply, bar_recv_tally, bar_tally, Finset.sum_const_zero, zero_add]
  rw [Finset.sum_comm]
  simp

theorem launch_recv (c : Dev nD) (s : Fin 20) :
    tallyOn (recvCell c s) (launchCredit (Pipeline.owing (Obar 0)) 0 (recvCell c s)) = (tallyAt (recvCell c s) () (Nc s) : CellTallies nD τ sig Unit) := by
  unfold tallyAt; refine congrArg _ (Finsupp.ext fun u => ?_); cases u
  rw [Pipeline.launchCredit_owing, Finsupp.single_eq_same]
  simp only [Obar_apply, recv_bar_tally, recv_tally, Finset.sum_const_zero, add_zero]
  simp

/-- A device's credit: its barrier's five units, and every landing on it. -/
theorem creds (c : Dev nD) :
    (Pipeline.launchCred (Obar 0) c : sProp 𝕄) ⊢ iprop(cred (tallyAt (barCell c) () 5) ∗ bigSep Finset.univ fun s : Fin 20 => cred (tallyAt (recvCell c s) () (Nc s))) := by
  have hi : Function.Injective fun s : Fin 20 => (SemLoc.dma (recvQ s) : SemLoc sig) := fun s s' h => by
    have := congrArg kind h
    dsimp only at this
    rw [kind_recv, kind_recv] at this
    exact Kind.recv.inj this
  unfold Pipeline.launchCred
  rw [bigSep_univ_at _ (SemLoc.reg barS), launch_bar]
  refine sep_mono_right ?_
  have hsub : (Finset.univ.map ⟨_, hi⟩ : Finset (SemLoc sig)) ⊆ Finset.univ.erase (SemLoc.reg barS) := fun x hx => by
    obtain ⟨s, -, rfl⟩ := Finset.mem_map.mp hx
    exact Finset.mem_erase.mpr ⟨(show (SemLoc.dma (recvQ s) : SemLoc sig) ≠ SemLoc.reg barS from fun h => by cases h), Finset.mem_univ _⟩
  refine (bigSep_subset hsub).trans ?_
  rw [bigSep_map]
  exact bigSep_mono fun s _ => by rw [← launch_recv]; exact BI.Entails.refl _

end Fund

end Cert.Exchange

end
-- ==== Proof.Gather.lean ====
/-
# The body, part by part: the all-gather

Each lemma takes one printed part of the body from the copies' phases before it to those after it.
-/
module

public import proofs.«01_k».proof.Proof.Parts

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Gather
variable (part : Dev nD → FVec F S1024x512 .f32) (K : Dev nD × CellIx → ℕ) (c : Dev nD)

/-- The completed rows are put into the result; the first copies of the all-gather are started. -/
theorem part16_spec (w1 w2 : BitVec 32) {Q : BitVec 32 → sProp 𝕄} :
    iprop(env part K ∗ PA part 1 5 c ∗ (∃ f, ptsO c (rng 0 5 c) f) ∗ (∃ f, ptsO c (rng 1 5 c) f) ∗ Ready 10 c ∗ Ready 11 c ∗ Ow 10 c
        ∗ (∀ r, (PA part 1 5 c ∗ Sent part 10 c ∗ Fly 11 c ∗ Ow 12 c) -∗ Q r))
      ⊢ wp frame (wpE (defs₀ (F := F)) 𝒱₀ (c : Thread nD τ) none) Set.univ (atBufs (k0_part16 (F := F)) c w1 w2 ((orow (st (0 : Fin 2).val 5 c) 16 (kept_le 8 c)).view.read (Elt F) (outF part))) Q := by
  unfold atBufs
  rw [k0_part16_eq_skeleton]; unfold k0_part16_skel
  simp only [Prog.lift, Prog.bind_op, Prog.bind_ret, Prog.pure_eq_ret]
  iintro ⟨#He, HB, HX, HY, HT10, HT11, HO, HQ⟩
  iapply (step_putOut part 0 c (kept_le 8 c) (off10_eqA c) (off10_eqA c)) $$ [HX]
  · iexact HX
  iintro HX
  iapply (step_loadSum part 1 c (kept_le 9 c) (off10_eqB c)) $$ [HB]
  · iexact HB
  iintro HB
  iapply (step_putOut part 1 c (kept_le 9 c) (off10_eqB c) (off10_eqB c)) $$ [HY]
  · iexact HY
  iintro HY
  iapply (step_sendAG part K 10 (by decide) c _ (dev16_eq c) 16 rfl (off11_eqA c) (off11_eqA c) _ _ (by decide) (by decide)) $$ [HT10 HX HO]
  · isplitr; · iexact He
    isplitl [HT10]; · iexact HT10
    isplitl [HX]; · iexact HX
    iexact HO
  iintro ⟨HT10, HO⟩
  iapply (step_sendAG part K 11 (by decide) c _ (dev17_eq c) 16 rfl (off11_eqB c) (off11_eqB c) _ _ (by decide) (by decide)) $$ [HT11 HY HO]
  · isplitr; · iexact He
    isplitl [HT11]; · iexact HT11
    isplitl [HY]; · iexact HY
    iexact HO
  iintro ⟨HT11, HO⟩
  iapply (step_waitSend part K 10 c 12 _ (by decide) (credO 10 rfl)) $$ [HT10 HO]
  · isplitr; · iexact He
    isplitl [HT10]; · iexact HT10
    iexact HO
  iintro ⟨HT10, HO⟩
  rw [wp_ret]; imodintro
  iapply HQ
  isplitl [HB]; · iexact HB
  isplitl [HT10]; · iexact HT10
  isplitl [HT11]; · iexact HT11
  iexact HO

/-- The first gathered rows arrive; the next copy is started. -/
theorem part17_spec (w1 w2 : BitVec 32) {Q : (Σ' (_ : BitVec 32), BitVec 32) → sProp 𝕄} :
    iprop(env part K ∗ Sent part 10 c ∗ Fly 11 c ∗ Ready 12 c ∗ Ow 12 c
        ∗ (∀ r, (Over 10 c ∗ Over 11 c ∗ OA part 1 4 c ∗ Fly 12 c ∗ Ow 13 c) -∗ Q r))
      ⊢ wp frame (wpE (defs₀ (F := F)) 𝒱₀ (c : Thread nD τ) none) Set.univ (atBufs (k0_part17 (F := F)) c w1 w2) Q := by
  unfold atBufs
  rw [k0_part17_eq_skeleton]; unfold k0_part17_skel
  simp only [Prog.lift, Prog.bind_op, Prog.bind_ret, Prog.pure_eq_ret]
  iintro ⟨#He, HT10, HT11, HT12, HO, HQ⟩
  iapply (step_landAG part K 10 (by decide) c 12 (by decide) _ (by decide) (credO 10 rfl)) $$ [HT10 HO]
  · isplitr; · iexact He
    isplitl [HT10]; · iexact HT10
    iexact HO
  iintro ⟨HT10, HX, HO⟩
  iapply (step_waitsAG part K 11 (by decide) c 12 (by decide) _ _ (by decide) (by decide) (credO 11 rfl) (credO 11 rfl)) $$ [HT11 HO]
  · isplitr; · iexact He
    isplitl [HT11]; · iexact HT11
    iexact HO
  iintro ⟨HT11, HY, HO⟩
  iapply (step_sendAG part K 12 (by decide) c _ (dev18_eq c) 32 rfl (off12_eqA c) (off12_eqA c) _ _ (by decide) (by decide)) $$ [HT12 HX HO]
  · isplitr; · iexact He
    isplitl [HT12]; · iexact HT12
    isplitl [HX]; · iexact HX
    iexact HO
  iintro ⟨HT12, HO⟩
  rw [wp_ret]; imodintro
  iapply HQ
  isplitl [HT10]; · iexact HT10
  isplitl [HT11]; · iexact HT11
  isplitl [HY]; · iexact HY
  isplitl [HT12]; · iexact HT12
  iexact HO

/-- The second gather stage. -/
theorem part18_spec (w1 w2 w3 : BitVec 32) {Q : BitVec 32 → sProp 𝕄} :
    iprop(env part K ∗ OA part 1 4 c ∗ Ready 13 c ∗ Fly 12 c ∗ Ow 13 c
        ∗ (∀ r, (Over 12 c ∗ OA part 0 3 c ∗ Over 13 c ∗ OA part 1 3 c ∗ Ow 14 c) -∗ Q r))
      ⊢ wp frame (wpE (defs₀ (F := F)) 𝒱₀ (c : Thread nD τ) none) Set.univ (atBufs (k0_part18 (F := F)) c w1 w2 w3) Q := by
  unfold atBufs
  rw [k0_part18_eq_skeleton]; unfold k0_part18_skel
  simp only [Prog.lift, Prog.bind_op, Prog.bind_ret, Prog.pure_eq_ret]
  iintro ⟨#He, HY, HT13, HT12, HO, HQ⟩
  iapply (step_sendAG part K 13 (by decide) c _ (dev19_eq c) 32 rfl (off12_eqB c) (off12_eqB c) _ _ (by decide) (by decide)) $$ [HT13 HY HO]
  · isplitr; · iexact He
    isplitl [HT13]; · iexact HT13
    isplitl [HY]; · iexact HY
    iexact HO
  iintro ⟨HT13, HO⟩
  iapply (step_waitsAG part K 12 (by decide) c 14 (by decide) _ _ (by decide) (by decide) (credO 12 rfl) (credO 12 rfl)) $$ [HT12 HO]
  · isplitr; · iexact He
    isplitl [HT12]; · iexact HT12
    iexact HO
  iintro ⟨HT12, HX, HO⟩
  iapply (step_waitsAG part K 13 (by decide) c 14 (by decide) _ _ (by decide) (by decide) (credO 13 rfl) (credO 13 rfl)) $$ [HT13 HO]
  · isplitr; · iexact He
    isplitl [HT13]; · iexact HT13
    iexact HO
  iintro ⟨HT13, HY, HO⟩
  rw [wp_ret]; imodintro
  iapply HQ
  isplitl [HT12]; · iexact HT12
  isplitl [HX]; · iexact HX
  isplitl [HT13]; · iexact HT13
  isplitl [HY]; · iexact HY
  iexact HO

/-- The third gather stage, but for its last landing. -/
theorem part19_spec (w1 w2 : BitVec 32) {Q : (Σ' (_ : BitVec 32), BitVec 32) → sProp 𝕄} :
    iprop(env part K ∗ Ready 14 c ∗ OA part 0 3 c ∗ Ready 15 c ∗ OA part 1 3 c ∗ Ow 14 c
        ∗ (∀ r, (Over 14 c ∗ OA part 0 2 c ∗ Sent part 15 c ∗ Ow 16 c) -∗ Q r))
      ⊢ wp frame (wpE (defs₀ (F := F)) 𝒱₀ (c : Thread nD τ) none) Set.univ (atBufs (k0_part19 (F := F)) c w1 w2) Q := by
  unfold atBufs
  rw [k0_part19_eq_skeleton]; unfold k0_part19_skel
  simp only [Prog.lift, Prog.bind_op, Prog.bind_ret, Prog.pure_eq_ret]
  iintro ⟨#He, HT14, HX, HT15, HY, HO, HQ⟩
  iapply (step_sendAG part K 14 (by decide) c _ (dev20_eq c) 64 rfl (off13_eqA c) (off13_eqA c) _ _ (by decide) (by decide)) $$ [HT14 HX HO]
  · isplitr; · iexact He
    isplitl [HT14]; · iexact HT14
    isplitl [HX]; · iexact HX
    iexact HO
  iintro ⟨HT14, HO⟩
  iapply (step_sendAG part K 15 (by decide) c _ (dev21_eq c) 64 rfl (off13_eqB c) (off13_eqB c) _ _ (by decide) (by decide)) $$ [HT15 HY HO]
  · isplitr; · iexact He
    isplitl [HT15]; · iexact HT15
    isplitl [HY]; · iexact HY
    iexact HO
  iintro ⟨HT15, HO⟩
  iapply (step_waitsAG part K 14 (by decide) c 16 (by decide) _ _ (by decide) (by decide) (credO 14 rfl) (credO 14 rfl)) $$ [HT14 HO]
  · isplitr; · iexact He
    isplitl [HT14]; · iexact HT14
    iexact HO
  iintro ⟨HT14, HX, HO⟩
  iapply (step_waitSend part K 15 c 16 _ (by decide) (credO 15 rfl)) $$ [HT15 HO]
  · isplitr; · iexact He
    isplitl [HT15]; · iexact HT15
    iexact HO
  iintro ⟨HT15, HO⟩
  rw [wp_ret]; imodintro
  iapply HQ
  isplitl [HT14]; · iexact HT14
  isplitl [HX]; · iexact HX
  isplitl [HT15]; · iexact HT15
  iexact HO

/-- That landing; the fourth stage's copies are started. -/
theorem part20_spec (w1 w2 w3 : BitVec 32) {Q : BitVec 32 → sProp 𝕄} :
    iprop(env part K ∗ Sent part 15 c ∗ Ready 16 c ∗ OA part 0 2 c ∗ Ready 17 c ∗ Ow 16 c
        ∗ (∀ r, (Over 15 c ∗ Sent part 16 c ∗ Fly 17 c ∗ Ow 18 c) -∗ Q r))
      ⊢ wp frame (wpE (defs₀ (F := F)) 𝒱₀ (c : Thread nD τ) none) Set.univ (atBufs (k0_part20 (F := F)) c w1 w2 w3) Q := by
  unfold atBufs
  rw [k0_part20_eq_skeleton]; unfold k0_part20_skel
  simp only [Prog.lift, Prog.bind_op, Prog.bind_ret, Prog.pure_eq_ret]
  iintro ⟨#He, HT15, HT16, HX, HT17, HO, HQ⟩
  iapply (step_landAG part K 15 (by decide) c 16 (by decide) _ (by decide) (credO 15 rfl)) $$ [HT15 HO]
  · isplitr; · iexact He
    isplitl [HT15]; · iexact HT15
    iexact HO
  iintro ⟨HT15, HY, HO⟩
  iapply (step_sendAG part K 16 (by decide) c _ (dev22_eq c) 128 rfl (off14_eqA c) (off14_eqA c) _ _ (by decide) (by decide)) $$ [HT16 HX HO]
  · isplitr; · iexact He
    isplitl [HT16]; · iexact HT16
    isplitl [HX]; · iexact HX
    iexact HO
  iintro ⟨HT16, HO⟩
  iapply (step_sendAG part K 17 (by decide) c _ (dev23_eq c) 128 rfl (off14_eqB c) (off14_eqB c) _ _ (by decide) (by decide)) $$ [HT17 HY HO]
  · isplitr; · iexact He
    isplitl [HT17]; · iexact HT17
    isplitl [HY]; · iexact HY
    iexact HO
  iintro ⟨HT17, HO⟩
  iapply (step_waitSend part K 16 c 18 _ (by decide) (credO 16 rfl)) $$ [HT16 HO]
  · isplitr; · iexact He
    isplitl [HT16]; · iexact HT16
    iexact HO
  iintro ⟨HT16, HO⟩
  rw [wp_ret]; imodintro
  iapply HQ
  isplitl [HT15]; · iexact HT15
  isplitl [HT16]; · iexact HT16
  isplitl [HT17]; · iexact HT17
  iexact HO

/-- The fourth stage's landings; the last stage's first copy is started. -/
theorem part21_spec (w1 w2 : BitVec 32) {Q : (Σ' (_ : BitVec 32), BitVec 32) → sProp 𝕄} :
    iprop(env part K ∗ Sent part 16 c ∗ Fly 17 c ∗ Ready 18 c ∗ Ow 18 c
        ∗ (∀ r, (Over 16 c ∗ Over 17 c ∗ OA part 1 1 c ∗ Fly 18 c ∗ Ow 19 c) -∗ Q r))
      ⊢ wp frame (wpE (defs₀ (F := F)) 𝒱₀ (c : Thread nD τ) none) Set.univ (atBufs (k0_part21 (F := F)) c w1 w2) Q := by
  unfold atBufs
  rw [k0_part21_eq_skeleton]; unfold k0_part21_skel
  simp only [Prog.lift, Prog.bind_op, Prog.bind_ret, Prog.pure_eq_ret]
  iintro ⟨#He, HT16, HT17, HT18, HO, HQ⟩
  iapply (step_landAG part K 16 (by decide) c 18 (by decide) _ (by decide) (credO 16 rfl)) $$ [HT16 HO]
  · isplitr; · iexact He
    isplitl [HT16]; · iexact HT16
    iexact HO
  iintro ⟨HT16, HX, HO⟩
  iapply (step_waitsAG part K 17 (by decide) c 18 (by decide) _ _ (by decide) (by decide) (credO 17 rfl) (credO 17 rfl)) $$ [HT17 HO]
  · isplitr; · iexact He
    isplitl [HT17]; · iexact HT17
    iexact HO
  iintro ⟨HT17, HY, HO⟩
  iapply (step_sendAG part K 18 (by decide) c _ (dev24_eq c) 256 rfl (off15_eqA c) (off15_eqA c) _ _ (by decide) (by decide)) $$ [HT18 HX HO]
  · isplitr; · iexact He
    isplitl [HT18]; · iexact HT18
    isplitl [HX]; · iexact HX
    iexact HO
  iintro ⟨HT18, HO⟩
  rw [wp_ret]; imodintro
  iapply HQ
  isplitl [HT16]; · iexact HT16
  isplitl [HT17]; · iexact HT17
  isplitl [HY]; · iexact HY
  isplitl [HT18]; · iexact HT18
  iexact HO

end Gather

end Cert.Exchange

end
-- ==== Proof.Body.lean ====
/-
# The body, whole

The rows are handed out to the copies, the parts of the body follow one another, and the rows are put together again.
-/
module

public import proofs.«01_k».proof.Proof.Gather
public import proofs.«01_k».proof.Proof.Entry

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Rows

/-- Cells at some contents or other, cut and joined. -/
theorem any_union {ℓ : Loc nD τ sig} {A B : Finset (Idx ℓ)} (h : Disjoint A B) :
    iprop(∃ f : Buf (Elt F) ℓ, (ℓ ↦[A ∪ B]{fullShare} f : sProp 𝕄)) ⊣⊢ iprop((∃ f : Buf (Elt F) ℓ, ℓ ↦[A]{fullShare} f) ∗ (∃ f : Buf (Elt F) ℓ, ℓ ↦[B]{fullShare} f)) := by
  constructor
  · iintro ⟨%f, H⟩
    ihave H := (pointsTo_union h).1 $$ H
    icases H with ⟨H1, H2⟩
    isplitl [H1]
    · iexists f; iexact H1
    · iexists f; iexact H2
  · iintro ⟨⟨%f, H1⟩, ⟨%g, H2⟩⟩
    ihave H := (pointsTo_join h) $$ [H1 H2]
    · isplitl [H1]; · iexact H1
      iexact H2
    iexists _; iexact H

theorem slot_cut (c : Dev nD) (a n k : ℕ) :
    iprop(∃ f, ptsQ (F := F) c (rowSet 992 a (n + k)) f) ⊣⊢ iprop((∃ f, ptsQ c (rowSet 992 a n) f) ∗ (∃ f, ptsQ c (rowSet 992 (a + n) k) f)) := by
  unfold ptsQ
  rw [← rowSet_append]
  exact any_union (F := F) (ℓ := (c : Thread nD τ).loc cc0_scratch1) (A := rowSet 992 a n) (B := rowSet 992 (a + n) k) (rowSet_disjoint (Or.inl (le_refl _)))

theorem out_cut (s : Fin 20) (hs : ¬ s.val < 10) (c : Dev nD) :
    iprop(∃ f, ptsO (F := F) c (rng (half s) (stg s) c) f) ⊢ iprop(landPts s c ∗ (∃ f, ptsO c (rng (half s) (stg s + 1) c) f)) := by
  unfold landPts
  rw [if_neg hs, ← rng_kept, rng_split]
  unfold ptsO
  exact (any_union (F := F) (ℓ := (c : Thread nD τ).loc cc0_stg4_0) (A := rowSet 1024 (sent s c) (rows s)) (B := rowSet 1024 (kept s c) (rows s)) (sent_kept_disjoint s c)).1

theorem sum_join (s : Fin 20) (c : Dev nD) :
    iprop((∃ f, ptsP (F := F) c (rowSet 1024 (sent s c) (rows s)) f) ∗ (∃ f, ptsP c (rng (half s) (stg s + 1) c) f)) ⊢ iprop(∃ f, ptsP c (rng (half s) (stg s) c) f) := by
  rw [← rng_kept, rng_split]
  unfold ptsP
  exact (any_union (F := F) (ℓ := (c : Thread nD τ).loc cc0_scratch0) (A := rowSet 1024 (sent s c) (rows s)) (B := rowSet 1024 (kept s c) (rows s)) (sent_kept_disjoint s c)).2

theorem sep20 {M : Type} [URA M] (Φ : Fin 20 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- The landing buffer, slot by slot. -/
def Slot (c : Dev nD) (s : Fin 20) : sProp 𝕄 := iprop(∃ f, ptsQ (F := F) c (rowSet 992 (slot s) (rows s)) f)
def slots (c : Dev nD) : sProp 𝕄 :=
  iprop(Slot c 0 ∗ Slot c 2 ∗ Slot c 4 ∗ Slot c 6 ∗ Slot c 8 ∗ Slot c 1 ∗ Slot c 3 ∗ Slot c 5 ∗ Slot c 7 ∗ Slot c 9)

/-- Consecutive slots from row `a` on fill the buffer to its end. -/
theorem slots_all (c : Dev nD) : iprop(∃ f, ptsQ (F := F) c Finset.univ f) ⊣⊢ slots c := by
  unfold slots Slot
  rw [← rowSet_univ 992]
  have tail : ∀ a n k : ℕ, ∀ P : sProp 𝕄, (iprop(∃ f, ptsQ (F := F) c (rowSet 992 (a + n) k) f) ⊣⊢ P) →
      (iprop(∃ f, ptsQ (F := F) c (rowSet 992 a (n + k)) f) ⊣⊢ iprop((∃ f, ptsQ (F := F) c (rowSet 992 a n) f) ∗ P)) := fun a n k P h =>
    ⟨(slot_cut c a n k).1.trans (sep_mono_r h.1), (sep_mono_r h.2).trans (slot_cut c a n k).2⟩
  refine tail 0 256 736 _ (tail 256 128 608 _ (tail 384 64 544 _ (tail 448 32 512 _ (tail 480 16 496 _ (tail 496 256 240 _
    (tail 752 128 112 _ (tail 880 64 48 _ (tail 944 32 16 _ ?_))))))))
  exact ⟨Entails.refl _, Entails.refl _⟩

end Rows

section Deal
variable (c : Dev nD)

theorem landPts_slot (s : Fin 20) (hs : s.val < 10) : landPts (F := F) s c = Slot c s := if_pos hs

/-- Everything the partners' copies write, and the device's last rows of the result, are the result's rows and the landing
    buffer's. -/
theorem deal : iprop((∃ f, ptsO (F := F) c Finset.univ f) ∗ (∃ f, ptsQ (F := F) c Finset.univ f))
    ⊢ iprop((bigSep Finset.univ fun s => landPts s c) ∗ (∃ f, ptsO c (rng 0 5 c) f) ∗ (∃ f, ptsO c (rng 1 5 c) f)) := by
  rw [sep20, landPts_slot c 0 (by decide), landPts_slot c 1 (by decide), landPts_slot c 2 (by decide), landPts_slot c 3 (by decide), landPts_slot c 4 (by decide), landPts_slot c 5 (by decide), landPts_slot c 6 (by decide), landPts_slot c 7 (by decide), landPts_slot c 8 (by decide), landPts_slot c 9 (by decide)]
  have hO : iprop(∃ f, ptsO (F := F) c Finset.univ f) ⊢ iprop((∃ f, ptsO c (rng 0 0 c) f) ∗ (∃ f, ptsO c (rng 1 0 c) f)) := by
    rw [← rng_halves c]; unfold ptsO
    exact (any_union (F := F) (ℓ := (c : Thread nD τ).loc cc0_stg4_0) (A := rng 0 0 c) (B := rng 1 0 c) (rowSet_disjoint (Or.inl (le_refl 512)))).1
  iintro ⟨HO, HQ⟩
  ihave HO := hO $$ HO
  icases HO with ⟨HX, HY⟩
  ihave HX := (out_cut 18 (by decide) c) $$ [HX]
  · iexact HX
  icases HX with ⟨L18, HX⟩
  ihave HY := (out_cut 19 (by decide) c) $$ [HY]
  · iexact HY
  icases HY with ⟨L19, HY⟩
  ihave HX := (out_cut 16 (by decide) c) $$ [HX]
  · iexact HX
  icases HX with ⟨L16, HX⟩
  ihave HY := (out_cut 17 (by decide) c) $$ [HY]
  · iexact HY
  icases HY with ⟨L17, HY⟩
  ihave HX := (out_cut 14 (by decide) c) $$ [HX]
  · iexact HX
  icases HX with ⟨L14, HX⟩
  ihave HY := (out_cut 15 (by decide) c) $$ [HY]
  · iexact HY
  icases HY with ⟨L15, HY⟩
  ihave HX := (out_cut 12 (by decide) c) $$ [HX]
  · iexact HX
  icases HX with ⟨L12, HX⟩
  ihave HY := (out_cut 13 (by decide) c) $$ [HY]
  · iexact HY
  icases HY with ⟨L13, HY⟩
  ihave HX := (out_cut 10 (by decide) c) $$ [HX]
  · iexact HX
  icases HX with ⟨L10, HX⟩
  ihave HY := (out_cut 11 (by decide) c) $$ [HY]
  · iexact HY
  icases HY with ⟨L11, HY⟩
  ihave HQ := (slots_all c).1 $$ HQ
  unfold slots
  icases HQ with ⟨L0, L2, L4, L6, L8, L1, L3, L5, L7, L9⟩
  isplitr [HX HY]
  · isplitl [L0]; · iexact L0
    isplitl [L1]; · iexact L1
    isplitl [L2]; · iexact L2
    isplitl [L3]; · iexact L3
    isplitl [L4]; · iexact L4
    isplitl [L5]; · iexact L5
    isplitl [L6]; · iexact L6
    isplitl [L7]; · iexact L7
    isplitl [L8]; · iexact L8
    isplitl [L9]; · iexact L9
    isplitl [L10]; · iexact L10
    isplitl [L11]; · iexact L11
    isplitl [L12]; · iexact L12
    isplitl [L13]; · iexact L13
    isplitl [L14]; · iexact L14
    isplitl [L15]; · iexact L15
    isplitl [L16]; · iexact L16
    isplitl [L17]; · iexact L17
    isplitl [L18]; · iexact L18
    iexact L19
  isplitl [HX]; · iexact HX
  iexact HY

end Deal

section Collect
variable (part : Dev nD → FVec F S1024x512 .f32) (c : Dev nD)

/-- A landed copy of the reduce-scatter gives back its slot and, with the rows kept, the rows its stage began with. -/
theorem undo (s : Fin 20) (hs : s.val < 10) :
    iprop(Done part s c ∗ (∃ f, ptsP (F := F) c (rng (half s) (stg s + 1) c) f)) ⊢ iprop(Over s c ∗ Slot c s ∗ (∃ f, ptsP (F := F) c (rng (half s) (stg s) c) f)) := by
  iintro ⟨HD, HP⟩
  ihave HD := (done_RS part s hs c).1 $$ HD
  icases HD with ⟨Hov, Hs, Hl⟩
  isplitl [Hov]; · iexact Hov
  isplitl [Hl]
  · unfold landed Slot
    icases Hl with ⟨%f, -, Hl⟩
    iexists f; iexact Hl
  iapply (sum_join s c)
  isplitl [Hs]; · iexact Hs
  iexact HP

/-- What the reduce-scatter leaves, put together. -/
theorem collect : iprop(PA part 0 5 c ∗ PA part 1 5 c ∗ Done part 0 c ∗ Done part 1 c ∗ Done part 2 c ∗ Done part 3 c ∗ Done part 4 c ∗ Done part 5 c
      ∗ Done part 6 c ∗ Done part 7 c ∗ Done part 8 c ∗ Done part 9 c)
    ⊢ iprop((∃ f, ptsP (F := F) c Finset.univ f) ∗ (∃ f, ptsQ (F := F) c Finset.univ f)
      ∗ Over 0 c ∗ Over 1 c ∗ Over 2 c ∗ Over 3 c ∗ Over 4 c ∗ Over 5 c ∗ Over 6 c ∗ Over 7 c ∗ Over 8 c ∗ Over 9 c) := by
  have hP : iprop((∃ f, ptsP (F := F) c (rng 0 0 c) f) ∗ (∃ f, ptsP c (rng 1 0 c) f)) ⊢ iprop(∃ f, ptsP (F := F) c Finset.univ f) := by
    rw [← rng_halves c]; unfold ptsP
    exact (any_union (F := F) (ℓ := (c : Thread nD τ).loc cc0_scratch0) (A := rng 0 0 c) (B := rng 1 0 c) (rowSet_disjoint (Or.inl (le_refl 512)))).2
  have hA : ∀ i : ℕ, PA part i 5 c ⊢ iprop(∃ f, ptsP (F := F) c (rng i 5 c) f) := fun i => by
    unfold PA; iintro H; iexists _; iexact H
  iintro ⟨HA, HB, T0, T1, T2, T3, T4, T5, T6, T7, T8, T9⟩
  ihave HA := hA 0 $$ HA
  ihave HB := hA 1 $$ HB
  ihave HA := (undo part c 8 (by decide)) $$ [T8 HA]
  · isplitl [T8]; · iexact T8
    iexact HA
  icases HA with ⟨T8, S8, HA⟩
  ihave HB := (undo part c 9 (by decide)) $$ [T9 HB]
  · isplitl [T9]; · iexact T9
    iexact HB
  icases HB with ⟨T9, S9, HB⟩
  ihave HA := (undo part c 6 (by decide)) $$ [T6 HA]
  · isplitl [T6]; · iexact T6
    iexact HA
  icases HA with ⟨T6, S6, HA⟩
  ihave HB := (undo part c 7 (by decide)) $$ [T7 HB]
  · isplitl [T7]; · iexact T7
    iexact HB
  icases HB with ⟨T7, S7, HB⟩
  ihave HA := (undo part c 4 (by decide)) $$ [T4 HA]
  · isplitl [T4]; · iexact T4
    iexact HA
  icases HA with ⟨T4, S4, HA⟩
  ihave HB := (undo part c 5 (by decide)) $$ [T5 HB]
  · isplitl [T5]; · iexact T5
    iexact HB
  icases HB with ⟨T5, S5, HB⟩
  ihave HA := (undo part c 2 (by decide)) $$ [T2 HA]
  · isplitl [T2]; · iexact T2
    iexact HA
  icases HA with ⟨T2, S2, HA⟩
  ihave HB := (undo part c 3 (by decide)) $$ [T3 HB]
  · isplitl [T3]; · iexact T3
    iexact HB
  icases HB with ⟨T3, S3, HB⟩
  ihave HA := (undo part c 0 (by decide)) $$ [T0 HA]
  · isplitl [T0]; · iexact T0
    iexact HA
  icases HA with ⟨T0, S0, HA⟩
  ihave HB := (undo part c 1 (by decide)) $$ [T1 HB]
  · isplitl [T1]; · iexact T1
    iexact HB
  icases HB with ⟨T1, S1, HB⟩
  isplitl [HA HB]
  · iapply hP
    isplitl [HA]; · iexact HA
    iexact HB
  isplitl [S0 S1 S2 S3 S4 S5 S6 S7 S8 S9]
  · iapply (slots_all c).2
    unfold slots
    isplitl [S0]; · iexact S0
    isplitl [S2]; · iexact S2
    isplitl [S4]; · iexact S4
    isplitl [S6]; · iexact S6
    isplitl [S8]; · iexact S8
    isplitl [S1]; · iexact S1
    isplitl [S3]; · iexact S3
    isplitl [S5]; · iexact S5
    isplitl [S7]; · iexact S7
    iexact S9
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  iexact T9

/-- The result's rows, put together. -/
theorem whole_out : iprop(OA part 0 0 c ∗ OA part 1 0 c) ⊢ ptsO c Finset.univ (outF part) := by
  unfold OA ptsO
  rw [← rng_halves c]
  exact (pointsTo_union (rowSet_disjoint (Or.inl (le_refl 512)))).2

end Collect

section Whole
variable (part : Dev nD → FVec F S1024x512 .f32) (K : Dev nD × CellIx → ℕ) (c : Dev nD)
variable (x : FVec F S1024x256 .f32) (rW : FVec F S256x128 .f32) (rt : IVec S1024x2 32) (w : FVec F S4x256x512 .f32)

/-- The rows a partner hands over go with the copies they are for. -/
theorem readies : iprop((bigSep Finset.univ fun s => Pend (F := F) s c) ∗ bigSep Finset.univ fun s => landPts (F := F) s (peer s c))
    ⊢ iprop(Ready 0 c ∗ Ready 1 c ∗ Ready 2 c ∗ Ready 3 c ∗ Ready 4 c ∗ Ready 5 c ∗ Ready 6 c ∗ Ready 7 c ∗ Ready 8 c ∗ Ready 9 c ∗ Ready 10 c ∗ Ready 11 c ∗ Ready 12 c ∗ Ready 13 c ∗ Ready 14 c ∗ Ready 15 c ∗ Ready 16 c ∗ Ready 17 c ∗ Ready 18 c ∗ Ready 19 c) := by
  rw [← sep20 fun s => Ready (F := F) s c]
  exact Entails.of_eq (bigSep_sep _ _ _).symm

/-- One device's call: from its blocks and its share of the protocol to the blocks, the whole sum and every cell closed. -/
theorem body_spec (hp : part c = partOf c x rW rt w) {Q : PUnit → sProp 𝕄} :
    iprop(env part K ∗ Ins c x rW rt w ∗ (∃ f, ptsO c Finset.univ f) ∗ (∃ f, ptsP c Finset.univ f) ∗ (∃ f, ptsQ c Finset.univ f) ∗ Gate c
        ∗ (bigSep Finset.univ fun s => Pend s c)
        ∗ ((Ins c x rW rt w ∗ ptsO c Finset.univ (outF part) ∗ (∃ f, ptsP c Finset.univ f) ∗ (∃ f, ptsQ c Finset.univ f) ∗ semVal (barCell c) 0
            ∗ (bigSep Finset.univ fun s => Over s c) ∗ Ow 20 c) -∗ Q ⟨⟩))
      ⊢ wp frame (wpE (defs₀ (F := F)) 𝒱₀ (c : Thread nD τ) none) Set.univ (atBufs (cc0_body (F := F))) Q := by
  unfold atBufs
  rw [cc0_body_eq_skeleton]; unfold cc0_body_skel
  rw [wp_bind, k0_part22_eq_skeleton]; unfold k0_part22_skel
  iintro ⟨#He, HI, HO, HP, HQ, HG, HT, Hk⟩
  ihave HD := (deal c) $$ [HO HQ]
  · isplitl [HO]; · iexact HO
    iexact HQ
  icases HD with ⟨HL, HX, HY⟩
  rw [wp_bind]
  iapply (part1_spec part K c x rW rt w)
  isplitr; · iexact He
  isplitl [HI]; · iexact HI
  isplitl [HG]; · iexact HG
  isplitl [HL]; · iexact HL
  iintro ⟨HI, Hbar, HL, HO⟩
  ihave HT := (readies c) $$ [HT HL]
  · isplitl [HT]; · iexact HT
    iexact HL
  icases HT with ⟨HT0, HT1, HT2, HT3, HT4, HT5, HT6, HT7, HT8, HT9, HT10, HT11, HT12, HT13, HT14, HT15, HT16, HT17, HT18, HT19⟩
  dsimp only
  rw [wp_bind]
  iapply (part2_spec c x rW rt w)
  isplitl [HI]; · iexact HI
  iintro HI
  dsimp only
  rw [wp_bind]
  iapply (part3_spec c x rW rt w)
  isplitl [HI]; · iexact HI
  iintro HI
  dsimp only
  rw [wp_bind]
  iapply (part4_spec part K c x rW rt w hp)
  isplitr; · iexact He
  isplitl [HI]; · iexact HI
  isplitl [HP]; · iexact HP
  isplitl [HT0]; · iexact HT0
  isplitl [HO]; · iexact HO
  iintro %r ⟨HI, HT0, HA, HB, HO⟩
  obtain ⟨a1, a2, a3, a4, a5⟩ := r
  dsimp only
  rw [wp_bind]
  iapply (part5_spec part K c _ _ _ _ _)
  isplitr; · iexact He
  isplitl [HT1]; · iexact HT1
  isplitl [HB]; · iexact HB
  isplitl [HT0]; · iexact HT0
  isplitl [HA]; · iexact HA
  isplitl [HO]; · iexact HO
  iintro %r5 ⟨HT1, HB, HT0, HA, HO⟩
  try dsimp only
  rw [wp_bind]
  iapply (part6_spec part K c _ _ _ _)
  isplitr; · iexact He
  isplitl [HA]; · iexact HA
  isplitl [HT1]; · iexact HT1
  isplitl [HB]; · iexact HB
  isplitl [HO]; · iexact HO
  iintro %r6 ⟨HA, HT1, HB, HO⟩
  obtain ⟨r6_0, r6_1⟩ := r6
  try dsimp only
  rw [wp_bind]
  iapply (part7_spec part K c _ _ _)
  isplitr; · iexact He
  isplitl [HT2]; · iexact HT2
  isplitl [HA]; · iexact HA
  isplitl [HT3]; · iexact HT3
  isplitl [HB]; · iexact HB
  isplitl [HO]; · iexact HO
  iintro %r7 ⟨HT2, HA, HT3, HB, HO⟩
  obtain ⟨r7_0, r7_1, r7_2⟩ := r7
  try dsimp only
  rw [wp_bind]
  iapply (part8_spec part K c _ _ _ _ _)
  isplitr; · iexact He
  isplitl [HT2]; · iexact HT2
  isplitl [HA]; · iexact HA
  isplitl [HT3]; · iexact HT3
  isplitl [HB]; · iexact HB
  isplitl [HO]; · iexact HO
  iintro ⟨HT2, HA, HT3, HB, HO⟩
  try dsimp only
  rw [wp_bind]
  iapply (part9_spec part K c _ _ _)
  isplitr; · iexact He
  isplitl [HB]; · iexact HB
  isplitl [HT4]; · iexact HT4
  isplitl [HA]; · iexact HA
  isplitl [HO]; · iexact HO
  iintro %r9 ⟨HB, HT4, HA, HO⟩
  obtain ⟨r9_0, r9_1, r9_2, r9_3⟩ := r9
  try dsimp only
  rw [wp_bind]
  iapply (part10_spec part K c _ _ _)
  isplitr; · iexact He
  isplitl [HT5]; · iexact HT5
  isplitl [HB]; · iexact HB
  isplitl [HT4]; · iexact HT4
  isplitl [HA]; · iexact HA
  isplitl [HO]; · iexact HO
  iintro %r10 ⟨HT5, HB, HT4, HA, HO⟩
  try dsimp only
  rw [wp_bind]
  iapply (part11_spec part K c _ _ _)
  isplitr; · iexact He
  isplitl [HT5]; · iexact HT5
  isplitl [HB]; · iexact HB
  isplitl [HT6]; · iexact HT6
  isplitl [HA]; · iexact HA
  isplitl [HO]; · iexact HO
  iintro %r11 ⟨HT5, HB, HT6, HA, HO⟩
  obtain ⟨r11_0, r11_1, r11_2, r11_3, r11_4, r11_5⟩ := r11
  try dsimp only
  rw [wp_bind]
  iapply (part12_spec part K c _ _ _ _ _ _)
  isplitr; · iexact He
  isplitl [HT7]; · iexact HT7
  isplitl [HB]; · iexact HB
  isplitl [HT6]; · iexact HT6
  isplitl [HA]; · iexact HA
  isplitl [HO]; · iexact HO
  iintro %r12 ⟨HT7, HB, HT6, HA, HO⟩
  try dsimp only
  rw [wp_bind]
  iapply (part13_spec part K c _ _ _ _)
  isplitr; · iexact He
  isplitl [HT7]; · iexact HT7
  isplitl [HB]; · iexact HB
  isplitl [HO]; · iexact HO
  iintro %r13 ⟨HT7, HB, HO⟩
  obtain ⟨r13_0, r13_1⟩ := r13
  try dsimp only
  rw [wp_bind]
  iapply (part14_spec part K c _ _ _)
  isplitr; · iexact He
  isplitl [HT8]; · iexact HT8
  isplitl [HA]; · iexact HA
  isplitl [HT9]; · iexact HT9
  isplitl [HB]; · iexact HB
  isplitl [HO]; · iexact HO
  iintro %r14 ⟨HT8, HA, HT9, HB, HO⟩
  obtain ⟨r14_0, r14_1⟩ := r14
  try dsimp only
  rw [wp_bind]
  iapply (part15_spec part K c _ _ _)
  isplitr; · iexact He
  isplitl [HT8]; · iexact HT8
  isplitl [HA]; · iexact HA
  isplitl [HT9]; · iexact HT9
  isplitl [HB]; · iexact HB
  isplitl [HO]; · iexact HO
  iintro ⟨HT8, HA, HT9, HB, HO⟩
  try dsimp only
  rw [wp_bind]
  iapply (part16_spec part K c _ _)
  isplitr; · iexact He
  isplitl [HB]; · iexact HB
  isplitl [HX]; · iexact HX
  isplitl [HY]; · iexact HY
  isplitl [HT10]; · iexact HT10
  isplitl [HT11]; · iexact HT11
  isplitl [HO]; · iexact HO
  iintro %r16 ⟨HB, HT10, HT11, HO⟩
  try dsimp only
  rw [wp_bind]
  iapply (part17_spec part K c _ _)
  isplitr; · iexact He
  isplitl [HT10]; · iexact HT10
  isplitl [HT11]; · iexact HT11
  isplitl [HT12]; · iexact HT12
  isplitl [HO]; · iexact HO
  iintro %r17 ⟨HT10, HT11, HY, HT12, HO⟩
  obtain ⟨r17_0, r17_1⟩ := r17
  try dsimp only
  rw [wp_bind]
  iapply (part18_spec part K c _ _ _)
  isplitr; · iexact He
  isplitl [HY]; · iexact HY
  isplitl [HT13]; · iexact HT13
  isplitl [HT12]; · iexact HT12
  isplitl [HO]; · iexact HO
  iintro %r18 ⟨HT12, HX, HT13, HY, HO⟩
  try dsimp only
  rw [wp_bind]
  iapply (part19_spec part K c _ _)
  isplitr; · iexact He
  isplitl [HT14]; · iexact HT14
  isplitl [HX]; · iexact HX
  isplitl [HT15]; · iexact HT15
  isplitl [HY]; · iexact HY
  isplitl [HO]; · iexact HO
  iintro %r19 ⟨HT14, HX, HT15, HO⟩
  obtain ⟨r19_0, r19_1⟩ := r19
  try dsimp only
  rw [wp_bind]
  iapply (part20_spec part K c _ _ _)
  isplitr; · iexact He
  isplitl [HT15]; · iexact HT15
  isplitl [HT16]; · iexact HT16
  isplitl [HX]; · iexact HX
  isplitl [HT17]; · iexact HT17
  isplitl [HO]; · iexact HO
  iintro %r20 ⟨HT15, HT16, HT17, HO⟩
  try dsimp only
  rw [wp_bind]
  iapply (part21_spec part K c _ _)
  isplitr; · iexact He
  isplitl [HT16]; · iexact HT16
  isplitl [HT17]; · iexact HT17
  isplitl [HT18]; · iexact HT18
  isplitl [HO]; · iexact HO
  iintro %r21 ⟨HT16, HT17, HY, HT18, HO⟩
  obtain ⟨r21_0, r21_1⟩ := r21
  try dsimp only
  simp only [Prog.lift, Prog.bind_op, Prog.bind_ret, Prog.pure_eq_ret]
  iapply (step_sendAG part K 19 (by decide) c _ (dev25_eq c) 256 rfl (off15_eqB c) (off15_eqB c) _ _ (by decide) (by decide)) $$ [HT19 HY HO]
  · isplitr; · iexact He
    isplitl [HT19]; · iexact HT19
    isplitl [HY]; · iexact HY
    iexact HO
  iintro ⟨HT19, HO⟩
  iapply (step_waitsAG part K 18 (by decide) c 20 (by decide) _ _ (by decide) (by decide) (credO 18 rfl) (credO 18 rfl)) $$ [HT18 HO]
  · isplitr; · iexact He
    isplitl [HT18]; · iexact HT18
    iexact HO
  iintro ⟨HT18, HX, HO⟩
  iapply (step_waitSend part K 19 c 20 _ (by decide) (credO 19 rfl)) $$ [HT19 HO]
  · isplitr; · iexact He
    isplitl [HT19]; · iexact HT19
    iexact HO
  iintro ⟨HT19, HO⟩
  rw [wp_ret]; imodintro
  iapply (step_landAG part K 19 (by decide) c 20 (by decide) _ (by decide) (credO 19 rfl)) $$ [HT19 HO]
  · isplitr; · iexact He
    isplitl [HT19]; · iexact HT19
    iexact HO
  iintro ⟨HT19, HY, HO⟩
  rw [wp_ret]; imodintro
  iapply Hk
  ihave HC := (collect part c) $$ [HA HB HT0 HT1 HT2 HT3 HT4 HT5 HT6 HT7 HT8 HT9]
  · isplitl [HA]; · iexact HA
    isplitl [HB]; · iexact HB
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HT8]; · iexact HT8
    iexact HT9
  icases HC with ⟨HP, HQ, HT0, HT1, HT2, HT3, HT4, HT5, HT6, HT7, HT8, HT9⟩
  isplitl [HI]; · iexact HI
  isplitl [HX HY]
  · iapply (whole_out part c)
    isplitl [HX]; · iexact HX
    iexact HY
  isplitl [HP]; · iexact HP
  isplitl [HQ]; · iexact HQ
  isplitl [Hbar]; · iexact Hbar
  isplitl [HT0 HT1 HT2 HT3 HT4 HT5 HT6 HT7 HT8 HT9 HT10 HT11 HT12 HT13 HT14 HT15 HT16 HT17 HT18 HT19]
  · rw [sep20]
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HT8]; · iexact HT8
    isplitl [HT9]; · iexact HT9
    isplitl [HT10]; · iexact HT10
    isplitl [HT11]; · iexact HT11
    isplitl [HT12]; · iexact HT12
    isplitl [HT13]; · iexact HT13
    isplitl [HT14]; · iexact HT14
    isplitl [HT15]; · iexact HT15
    isplitl [HT16]; · iexact HT16
    isplitl [HT17]; · iexact HT17
    isplitl [HT18]; · iexact HT18
    iexact HT19
  iexact HO

end Whole

end Cert.Exchange

end
-- ==== Proof.Run.lean ====
/-
# The kernel's run

From any memory with zero counters, for any values of the floats: the thirty-two devices' calls end, the arguments as they
were, every result array the gathered sums, every counter zero.
-/
module

public import proofs.«01_k».proof.Proof.Fund
public import proofs.«01_k».proof.Proof.Body
public import Idealize.ShloMosaic.Lib.Pipeline.CollectiveSegs
public import proofs.«01_k».proof.Proof.Gen.KernelIdeal.Points
public import Idealize.ShloMosaic.Lib.Pipeline.Launch
public import Idealize.ShloMosaic.Lib.Pipeline.Kit
public import Idealize.ShloMosaic.Lib.Pipeline.Regions
public import proofs.«01_k».proof.Proof.Gen.KernelIdeal.Launch

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run
variable (m : (ℓ : Loc nD τ sig) → Buf (Elt F) ℓ) (ρ : Dev nD → PrngReg)

/-- A device's arguments. -/
abbrev argX (c : Dev nD) : FVec F S1024x256 .f32 := m ((c : Thread nD τ).loc main_arg0)
abbrev argR (c : Dev nD) : FVec F S256x128 .f32 := m ((c : Thread nD τ).loc main_arg1)
abbrev argT (c : Dev nD) : IVec S1024x2 32 := m ((c : Thread nD τ).loc main_arg2)
abbrev argW (c : Dev nD) : FVec F S4x256x512 .f32 := m ((c : Thread nD τ).loc main_arg3)

/-- Each device's own partial sums. -/
def parts (c : Dev nD) : FVec F S1024x512 .f32 := partOf c (argX m c) (argR m c) (argT m c) (argW m c)

/-- What a device's call starts from. -/
def start (c : Dev nD) : sProp 𝕄 :=
  iprop(G' (parts m) c ∗ (cred (tallyAt (barCell c) () 5) ∗ bigSep Finset.univ fun s : Fin 20 => cred (tallyAt (recvCell c s) () (Nc s))) ∗ levAts L lv)
def Φ₀ (c : Dev nD) : sProp 𝕄 := iprop(start m c ∗ (∃ f, ptsP (F := F) c Finset.univ f) ∗ (∃ f, ptsQ (F := F) c Finset.univ f))
/-- What it ends with: the scratch buffers and every cell closed. -/
def Φ₁ (c : Dev nD) : sProp 𝕄 :=
  iprop((∃ f, ptsP (F := F) c Finset.univ f) ∗ (∃ f, ptsQ (F := F) c Finset.univ f) ∗ semVal (barCell c) 0 ∗ bigSep Finset.univ fun s => Over s c)

def dats (_ : Fin 1) (c : Dev nD) : Dat τ (Elt F) Unit ℕ UU ℕ cfg0 c where
  A w := m ((cfg0.win w).arr.view.loc (c : Thread nD τ))
  after w _ := match w with
    | ⟨0, _⟩ => argX m c
    | ⟨1, _⟩ => argR m c
    | ⟨2, _⟩ => argT m c
    | ⟨3, _⟩ => argW m c
    | ⟨4, _⟩ => outF (parts m)
  Φ t := match t with
    | ⟨0, _⟩ => Φ₀ m c
    | ⟨_ + 1, _⟩ => Φ₁ c
  q _ := fullShare
  owed t := match t with
    | ⟨0, _⟩ => Obar 0 c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## A window's one block is its whole array -/

omit [FloatOps F] in
theorem blk_0 (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from funext fun a => by fin_cases a <;> decide) (fun a => by fin_cases a <;> decide) f
omit [FloatOps F] in
theorem blk_1 (c : Dev nD) (f : Buf (Elt F) ((c : Thread nD τ).loc main_arg1)) : (win0_1.blk t0_0).view.read (Elt F) f = f :=
  Memref.read_access_unit_zero (Elt F) main_arg1
    (show (fun a => (win0_1.index t0_0) a * main_arg1.ty.shape.size a) = fun _ => 0 from funext fun a => by fin_cases a <;> decide) (fun a => by fin_cases a <;> decide) f
omit [FloatOps F] in
theorem blk_2 (c : Dev nD) (f : Buf (Elt F) ((c : Thread nD τ).loc main_arg2)) : (win0_2.blk t0_0).view.read (Elt F) f = f :=
  Memref.read_access_unit_zero (Elt F) main_arg2
    (show (fun a => (win0_2.index t0_0) a * main_arg2.ty.shape.size a) = fun _ => 0 from funext fun a => by fin_cases a <;> decide) (fun a => by fin_cases a <;> decide) f
omit [FloatOps F] in
theorem blk_3 (c : Dev nD) (f : Buf (Elt F) ((c : Thread nD τ).loc main_arg3)) : (win0_3.blk t0_0).view.read (Elt F) f = f :=
  Memref.read_access_unit_zero (Elt F) main_arg3
    (show (fun a => (win0_3.index t0_0) a * main_arg3.ty.shape.size a) = fun _ => 0 from funext fun a => by fin_cases a <;> decide) (fun a => by fin_cases a <;> decide) f
omit [FloatOps F] in
theorem blk_4 (c : Dev nD) (f : Buf (Elt F) ((c : Thread nD τ).loc main_v1)) : (win0_4.blk t0_0).view.read (Elt F) f = f :=
  Memref.read_access_unit_zero (Elt F) main_v1
    (show (fun a => (win0_4.index t0_0) a * main_v1.ty.shape.size a) = fun _ => 0 from funext fun a => by fin_cases a <;> decide) (fun a => by fin_cases a <;> decide) f

theorem before_0 (c : Dev nD) (d) : (dats m 0 c).before (0 : Fin 5) t0_0 d = argX m c := by
  unfold Dat.before; rw [if_pos (fetch0_0 t0_0)]
  exact Eq.trans (by unfold Dat.fetched Dat.blockOf; rfl) (blk_0 c (argX m c))
theorem before_1 (c : Dev nD) (d) : (dats m 0 c).before (1 : Fin 5) t0_0 d = argR m c := by
  unfold Dat.before; rw [if_pos (fetch0_1 t0_0)]
  exact Eq.trans (by unfold Dat.fetched Dat.blockOf; rfl) (blk_1 c (argR m c))
theorem before_2 (c : Dev nD) (d) : (dats m 0 c).before (2 : Fin 5) t0_0 d = argT m c := by
  unfold Dat.before; rw [if_pos (fetch0_2 t0_0)]
  exact Eq.trans (by unfold Dat.fetched Dat.blockOf; rfl) (blk_2 c (argT m c))
theorem before_3 (c : Dev nD) (d) : (dats m 0 c).before (3 : Fin 5) t0_0 d = argW m c := by
  unfold Dat.before; rw [if_pos (fetch0_3 t0_0)]
  exact Eq.trans (by unfold Dat.fetched Dat.blockOf; rfl) (blk_3 c (argW m c))

/-! ## The body -/

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, held c cc0_stg0_0 ((dats m 0 c).before (0 : Fin 5) t0_0 d))
    ∗ (∃ d, held c cc0_stg1_0 ((dats m 0 c).before (1 : Fin 5) t0_0 d))
    ∗ (∃ d, held c cc0_stg2_0 ((dats m 0 c).before (2 : Fin 5) t0_0 d))
    ∗ (∃ d, held c cc0_stg3_0 ((dats m 0 c).before (3 : Fin 5) t0_0 d))
    ∗ (∃ d, held c cc0_stg4_0 ((dats m 0 c).before (4 : Fin 5) t0_0 d)))
def bodyPost (c : Dev nD) : sProp 𝕄 :=
  iprop(Φ₁ c ∗ (dats m 0 c).owesAt () t0_0.succ ∗ held c cc0_stg0_0 (argX m c) ∗ held c cc0_stg1_0 (argR m c) ∗ held c cc0_stg2_0 (argT m c)
    ∗ held c cc0_stg3_0 (argW m c) ∗ held c cc0_stg4_0 (outF (parts m)))

omit [FloatOps F] in
/-- A device's share and its credit are what the handshake and the copies take. -/
theorem share_parts (c : Dev nD) : iprop(Share c ∗ (cred (tallyAt (barCell c) () 5) ∗ bigSep Finset.univ fun s : Fin 20 => cred (tallyAt (recvCell c s) () (Nc s))) ∗ OwB 0 c)
    ⊢ iprop(Gate (F := F) c ∗ bigSep Finset.univ fun s => Pend s c) := by
  unfold Share payToks Gate Pend
  rw [bigSep_cells]
  simp only [bigSep_sep']
  iintro ⟨⟨⟨Hb, Hs, Hr⟩, Tb, Ts, Tr⟩, ⟨Cb, Cr⟩, HO⟩
  isplitl [Hb Cb Tb HO]
  · isplitl [Hb]; · iexact Hb
    isplitl [Cb]; · iexact Cb
    isplitl [Tb]; · iexact Tb
    iexact HO
  isplitl [Hs]; · iexact Hs
  isplitl [Hr]; · iexact Hr
  isplitl [Ts]; · iexact Ts
  isplitl [Tr]; · iexact Tr
  iexact Cr

set_option maxHeartbeats 800000 in
theorem sound_body (c : Dev nD) :
    bodyPre m c ⊢ wp frame (wpE (defs₀ (F := F)) 𝒱₀ (c : Thread nD τ) none) Set.univ (atBufs (cc0_body (F := F))) (fun _ => bodyPost m c) := by
  unfold bodyPre Φ₀ start G' Dat.owesAt Pipeline.owesWithin
  iintro ⟨⟨⟨⟨%K, #HR, HS⟩, HC, #HL⟩, HP, HQ⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩⟩
  rw [before_0] at h0; rw [before_1] at h1; rw [before_2] at h2; rw [before_3] at h3
  subst h0 h1 h2 h3
  ihave HG := (share_parts (F := F) c) $$ [HS HC HO]
  · isplitl [HS]; · iexact HS
    isplitl [HC]; · iexact HC
    unfold OwB; iexists W; iexact HO
  icases HG with ⟨HG, HT⟩
  iapply (body_spec (parts m) K c (argX m c) (argR m c) (argT m c) (argW m c) rfl)
  isplitr
  · unfold env
    isplitr; · iexact HR
    iexact HL
  isplitl [H0 H1 H2 H3]
  · unfold Ins
    isplitl [H0]; · iexact H0
    isplitl [H1]; · iexact H1
    isplitl [H2]; · iexact H2
    iexact H3
  isplitl [H4]; · unfold ptsO; iexists g4; iexact H4
  isplitl [HP]; · iexact HP
  isplitl [HQ]; · iexact HQ
  isplitl [HG]; · iexact HG
  isplitl [HT]; · iexact HT
  unfold Ins Ow ptsO
  iintro ⟨⟨H0, H1, H2, H3⟩, H4, HP, HQ, HB, HV, ⟨%W', HO⟩⟩
  unfold bodyPost Φ₁ Dat.owesAt Pipeline.owesWithin
  isplitl [HP HQ HB HV]
  · isplitl [HP]; · iexact HP
    isplitl [HQ]; · iexact HQ
    isplitl [HB]; · iexact HB
    iexact HV
  isplitl [HO]
  · iexists W'
    isplitr; · ipureintro; exact fun _ _ => Or.inl trivial
    rw [Orem_end]
    iexact HO
  isplitl [H0]; · iexists _; isplitr; · ipureintro; exact rfl
                  iexact H0
  isplitl [H1]; · iexists _; isplitr; · ipureintro; exact rfl
                  iexact H1
  isplitl [H2]; · iexists _; isplitr; · ipureintro; exact rfl
                  iexact H2
  isplitl [H3]; · iexists _; isplitr; · ipureintro; exact rfl
                  iexact H3
  iexists _; isplitr; · ipureintro; exact rfl
  iexact H4

set_option maxRecDepth 65536 in
theorem body_obligation (c : Dev nD) : BodyObligation (dats (F := F) m 0 c) (defs₀ (F := F)) 𝒱₀ () Set.univ := fun t => by
  rw [fin_N0 t, bigSep_W0, bigSep_W0]
  simp only [owns_whole_eq]
  exact sound_body m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (Obar 0) c ∗ prngReg c (ρ c) ∗ G' (parts m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, HP, HQ⟩
  isplitl [Hs]; · iexact Hs
  unfold ptsP ptsQ
  isplitl [HP]; · iexact HP
  iexact HQ

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨HP, HQ, HB, HV⟩
  isplitl [HB]; · iexact HB
  isplitl [HV]; · iexact HV
  unfold ptsP ptsQ
  isplitl [HP]; · iexact HP
  iexact HQ

omit [FloatOps F] in
theorem mayWait_stage (c : Dev nD) (sm : SemLoc sig) (h : rank (kind sm) = 0) (O : CellTallies nD τ sig Unit) (hO : O = Obar 0 c ∨ O = 0) :
    (levAts L lv : sProp 𝕄) ⊢ MayWait (c : Thread nD τ) sm () O :=
  mayWait_of c _ _ 0 (le_of_eq h) fun g u hg => by
    rcases hO with rfl | rfl
    · exact Obar_pos hg
    · exact absurd hg (by simp)

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-! ## The run -/

/-- What a run ends in: every window's array at its final contents. -/
def Ended (r : PUnit × MemSt nD τ sig (Elt F)) : Prop :=
  ∀ c : Dev nD, ∀ w : Fin cfg0.W, r.2.mem ((cfg0.win w).arr.view.loc (c : Thread nD τ)) = (dats m 0 c).arrAt w cfg0.N

set_option maxRecDepth 8000 in
theorem run_ended : θ_run defs (onTc (τ := τ) (main (F := F))) ⟨m, fun _ => 0, ρ⟩ (fun r => Ended m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => main_chain c)
    (hbody := body_obligation m) (hne := block_pos0) (harr := arr_whole0) (hstage := stage_whole0) (hshare := share_eq m)
    (hdistinct := winFacts0.arr_inj)
    (O₀ := Obar 0) (howed₀ := fun _ => rfl) (howedN := fun _ => rfl)
    (L := L) (lv := lv) (hL := L_of_ne) (hwaits := waits m)
    (G := G (parts m)) (G' := G' (parts m)) (u₀ := u₀)
    (hu₀ := by
      unfold u₀
      iintro Hu
      ihave H := (ownU_pair _ _) $$ Hu
      icases H with ⟨HP, HX⟩
      imod (fund_cells (parts m)) $$ HX with HG
      imodintro
      isplitl [HP]; · iexact HP
      iexact HG)
    (hglob := glob (parts m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

theorem result_eq (c : Dev nD) : (dats m 0 c).arrAt 4 cfg0.N = outF (parts m) := by
  have hw : ((cfg0.win 4).blk t0_0).view.read (Elt F) ((dats m 0 c).arrAt 4 cfg0.N) = (dats m 0 c).flushed 4 t0_0 := by
    rw [show cfg0.N = t0_0.val + 1 from rfl, (dats m 0 c).arrAt_succ (4 : Fin 5) t0_0, flush0_4, if_pos rfl]
    exact View.read_write_univ _ _
  refine (blk_4 c _).symm.trans (hw.trans ?_)
  exact funext fun _ => rfl

/-- The run: every device's result array holds the gathered sums, its arguments what they held, every counter zero. -/
theorem run_main : θ_run defs (onTc (τ := τ) (main (F := F))) ⟨m, fun _ => 0, ρ⟩ (fun r => (∀ c : Dev nD,
      r.2.mem ((c.tc : Thread nD τ).loc main_v1) = outF (parts m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
    ⟨(h.1 c 4).trans (result_eq m c), (h.1 c 0).trans ((dats m 0 c).arrAt_in 0 rfl _), (h.1 c 1).trans ((dats m 0 c).arrAt_in 1 rfl _),
      (h.1 c 2).trans ((dats m 0 c).arrAt_in 2 rfl _), (h.1 c 3).trans ((dats m 0 c).arrAt_in 3 rfl _)⟩, h.2⟩) (run_ended m ρ)

end Run

end Cert.Exchange

end
-- ==== Proof.Frames.lean ====
/-
# The frames

What a run leaves of the arguments and of the counters: of the kernel at the chip's floats, of the kernel at the reals,
and of the reference. All but the last are readings of the one run `run_main`, which holds of any floats.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Exchange

open Idealize.ShloMosaic Idealize.SL.Sem

/-- The kernel's program and its reading at the reals are the same text: so are their tables of bodies. -/
theorem defs₀_same : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext x y
  match x, y with
  | 0, (t, s) => rfl

theorem defs_same : @Cert.Kernel.defs Bits _ Cert.Kernel.Gen.facts = @Cert.KernelIdeal.defs Bits _ Cert.KernelIdeal.Gen.facts :=
  congrArg (Pipeline.defs (Cert.KernelIdeal.pcfgs (F := Bits))) defs₀_same

/-- The two programs of the kernel are the same text, so the run of the one is the run of the other. -/
theorem frame_bits : Cert.quiescent_Kernel (hKernel := Cert.Kernel.Gen.facts) := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
    (θ_run (Cert.KernelIdeal.defs (F := Bits)) _ _).mono (fun _ h => ⟨fun c => (h.1 c).2, h.2⟩) (run_main (F := Bits) m ρ)
  rw [defs_same]
  exact h

theorem frame_real : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (run_main (F := Ideal) m ρ)

/-- The reference declares no semaphore: its counters are zero because there are none. -/
theorem frame_ref : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

end Cert.Exchange

end
-- ==== Proof.Given.lean ====
/-
# What the precondition gives

Every route names one of the 128 experts; every entry of the rows and of the router's matrix is a real number.
-/
module

public import proofs.«01_k».proof.Defs
public import Idealize.ShloMosaic.Lib.Pointwise

@[expose] public section

noncomputable section

namespace Cert.Given

open Idealize.ShloMosaic

/-- The side conditions of the precondition's own operations. -/
theorem factsKernel : Cert.Pre_routed_and_finite_KernelIdeal.Facts := ⟨by decide, by decide, by decide⟩
theorem factsReference : Cert.Pre_routed_and_finite_ReferenceIdeal.Facts := ⟨by decide, by decide, by decide⟩

/-- A word from 0 below 128, read signed, is one of the first 128 words. -/
theorem route_of (w : BitVec 32) (h : IntOp.andi (IntOp.cmpi .sge w 0#32) (IntOp.cmpi .slt w 128#32) = 1#1) :
    ∃ e : Fin 128, w = BitVec.ofNat 32 e.val := by
  have hs : BitVec.sle 0#32 w = true ∧ BitVec.slt w 128#32 = true := by
    revert h
    simp only [IntOp.andi, IntOp.cmpi]
    cases BitVec.sle 0#32 w <;> cases BitVec.slt w 128#32 <;> decide
  have h0 : 0 ≤ w.toInt := by simpa [BitVec.sle] using hs.1
  have h1 : w.toInt < 128 := by
    have := hs.2
    simp only [BitVec.slt, decide_eq_true_eq] at this
    exact this
  have hn : w.toNat < 128 := by
    rw [BitVec.toInt_eq_toNat_cond] at h0 h1
    split at h0 <;> omega
  exact ⟨⟨w.toNat, hn⟩, by simp⟩

theorem top : Ideal.ofBits .f32 0x7F800000#32 = ⊤ := by simp [Ideal.ofBits, Ideal.ieee]

/-- What lies below infinity in absolute value is a real number. -/
theorem real_of (v : EReal) (h : Ideal.cmp .olt (max v (-v)) ⊤ = 1#1) : ∃ r : ℝ, v = (r : EReal) := by
  have hl : max v (-v) < ⊤ := by
    by_contra hn
    simp [Ideal.cmp, hn] at h
  induction v with
  | bot => simp at hl
  | top => simp at hl
  | coe r => exact ⟨r, rfl⟩

section
variable [hF : Cert.Pre_routed_and_finite_KernelIdeal.Facts]
open Cert.Pre_routed_and_finite_KernelIdeal
variable (x : FVec Ideal S1024x256 .f32) (rW : FVec Ideal S256x128 .f32) (rt : IVec S1024x2 32) (w : FVec Ideal S4x256x512 .f32)

theorem routes_named (h : (fn (F := Ideal) x rW rt w).1 = fun _ => 1#1) (n : Fin 1024) (k : Fin 2) :
    ∃ e : Fin 128, rt (ix2 n k) = BitVec.ofNat 32 e.val := by
  apply route_of
  have := congrFun h (ix2 n k)
  unfold fn at this
  revert this
  pointwise
  exact id

theorem rows_real (h : (fn (F := Ideal) x rW rt w).2.1 = fun _ => 1#1) (n : Fin 1024) (d : Fin 256) : ∃ r : ℝ, x (ix2 n d) = (r : EReal) := by
  apply real_of
  have := congrFun h (ix2 n d)
  unfold fn at this
  revert this
  pointwise [top]
  exact id

theorem router_real (h : (fn (F := Ideal) x rW rt w).2.2 = fun _ => 1#1) (d : Fin 256) (l : Fin 128) : ∃ r : ℝ, rW (ix2 d l) = (r : EReal) := by
  apply real_of
  have := congrFun h (ix2 d l)
  unfold fn at this
  revert this
  pointwise [top]
  exact id
end

end Cert.Given

end
-- ==== Proof.Partial.lean ====
/-
# One device's share, read at an entry

At the reals, what the call of one device adds up before the exchange: for each of its four experts, the rows weighted by
the expert's gate, times the expert's matrix.
-/
module

public import proofs.«01_k».proof.Proof.Entry
public import Idealize.ShloMosaic.Lib.Pointwise

@[expose] public section

noncomputable section

namespace Cert.Exchange

open Cert.KernelIdeal Cert.KernelIdeal.Gen
open Idealize.ShloMosaic

variable (c : Dev nD) (x : FVec Ideal S1024x256 .f32) (rW : FVec Ideal S256x128 .f32) (rt : IVec S1024x2 32) (w : FVec Ideal S4x256x512 .f32)

/-- The router's score of row `n` for expert `l`. -/
def score (n : Fin 1024) (l : Fin 128) : EReal := ∑ d : Fin 256, x (ix2 n d) * rW (ix2 d l)
/-- The largest score of row `n`. -/
def topScore (n : Fin 1024) : EReal := Finset.univ.fold max ⊥ (score x rW n)
/-- The exponential of a score less the largest. -/
def power (n : Fin 1024) (l : Fin 128) : EReal := Ideal.exp (score x rW n l - topScore x rW n)
/-- The powers whose lane is the word `e`, added up. -/
def picked (n : Fin 1024) (e : BitVec 32) : EReal := ∑ l : Fin 128, if BitVec.ofNat 32 l.val = e then power x rW n l else 0

theorem first_at (n : Fin 1024) : first (F := Ideal) rt (ix2 n 0) = rt (ix2 n 0) := by
  change rt ((Rect.unit (s := S1024x2) ![0, 0] S1024x1.size inb_S1024x2_S1024x1_0_0).toLoadRect.idx (ix2 n 0)) = _
  pointwise
theorem second_at (n : Fin 1024) : second (F := Ideal) rt (ix2 n 0) = rt (ix2 n 1) := by
  change rt ((Rect.unit (s := S1024x2) ![0, 1] S1024x1.size inb_S1024x2_S1024x1_0_1).toLoadRect.idx (ix2 n 0)) = _
  pointwise
theorem expert_at (j : Fin 4) (h) (d : Fin 256) (f : Fin 512) : expert w j.val h (ix3 0 d f) = w (ix3 j d f) := by
  change w ((Rect.unit (s := S4x256x512) ![j.val, 0, 0] S1x256x512.size h).toLoadRect.idx (ix3 0 d f)) = _
  pointwise

theorem pay2_at (n : Fin 1024) (l : Fin 128) : k0_pay2 (F := Ideal) x rW (ix2 n l) = score x rW n l := by
  pointwise [k0_pay2, k0_pay1, score]

theorem negInf : Ideal.ofBits .f32 0xFF800000#32 = ⊥ := by simp [Ideal.ofBits, Ideal.ieee]

/-- A selection by the equality of two words is a case distinction. -/
theorem select_eq {α : Type} (a b : BitVec 32) (u v : α) : Scalar.select (IntOp.cmpi .eq a b) u v = if a = b then u else v := by
  by_cases h : a = b
  · simp [Scalar.select, IntOp.cmpi, h]
  · have hb : (a == b) = false := beq_eq_false_iff_ne.2 h
    simp [Scalar.select, IntOp.cmpi, h, hb]

theorem pay3_at (n : Fin 1024) (l : Fin 128) : k0_pay3 (F := Ideal) (k0_pay2 (F := Ideal) x rW) (ix2 n l) = power x rW n l := by
  pointwise [k0_pay3, pay2_at, power, topScore, negInf]

theorem pay6_at (n : Fin 1024) (v : IVec S1024x1 32) : k0_pay6 (F := Ideal) (k0_pay2 (F := Ideal) x rW) v (ix2 n 0) = picked x rW n (v (ix2 n 0)) := by
  pointwise [k0_pay6, k0_pay4, pay3_at, picked, select_eq]

theorem pay7_at (n : Fin 1024) (v : IVec S1024x1 32) : k0_pay7 (F := Ideal) (k0_pay2 (F := Ideal) x rW) v (ix2 n 0) = picked x rW n (v (ix2 n 0)) := by
  pointwise [k0_pay7, k0_pay5, pay3_at, picked, select_eq]

/-- The two experts' gates of row `n`: the picked powers over their sum. -/
def share1 (n : Fin 1024) : EReal := Ideal.div (picked x rW n (rt (ix2 n 0))) (picked x rW n (rt (ix2 n 0)) + picked x rW n (rt (ix2 n 1)))
def share2 (n : Fin 1024) : EReal := Ideal.div (picked x rW n (rt (ix2 n 1))) (picked x rW n (rt (ix2 n 0)) + picked x rW n (rt (ix2 n 1)))
/-- The weight of expert `e` on row `n`. -/
def weight (n : Fin 1024) (e : BitVec 32) : EReal :=
  (if rt (ix2 n 0) = e then share1 x rW rt n else 0) + (if rt (ix2 n 1) = e then share2 x rW rt n else 0)

theorem gate1_at (n : Fin 1024) : gate1 (F := Ideal) x rW rt (ix2 n 0) = share1 x rW rt n := by
  pointwise [gate1, k0_pay9, k0_pay8, pay6_at, pay7_at, first_at, second_at, share1]
theorem gate2_at (n : Fin 1024) : gate2 (F := Ideal) x rW rt (ix2 n 0) = share2 x rW rt n := by
  pointwise [gate2, k0_pay10, k0_pay8, pay6_at, pay7_at, first_at, second_at, share2]

/-- Row `n` under the weights of the expert named by the word `e`, times a column `M` of that expert's matrix. -/
def term (e : BitVec 32) (M : Fin 256 → EReal) (n : Fin 1024) : EReal := ∑ d : Fin 256, x (ix2 n d) * weight x rW rt n e * M d

/-- The word by which device `c` names its expert `j`. -/
abbrev named (c : Dev nD) (j : BitVec 32) : BitVec 32 := Scalar.addi (Scalar.muli (wordOf c) 4#32) j

theorem named_eq : ∀ (c : Dev nD) (j : Fin 4), named c (BitVec.ofNat 32 j.val) = BitVec.ofNat 32 (4 * c.val + j.val) := by
  decide +kernel

theorem sum1_at (n : Fin 1024) (f : Fin 512) :
    sum1 (F := Ideal) c x rW rt w (ix2 n f) = term x rW rt (named c 0#32) (fun d => w (ix3 0 d f)) n := by
  have e : ∀ d f, expert w 0 inb_S4x256x512_S1x256x512_0_0_0 (ix3 0 d f) = w (ix3 0 d f) := expert_at w 0 _
  pointwise [sum1, k0_pay12, k0_pay1, k0_pay4, k0_pay5, gate1_at, gate2_at, first_at, second_at, e, select_eq, term, weight]

theorem sum3_at (n : Fin 1024) (f : Fin 512) :
    sum3 (F := Ideal) c x rW rt w (ix2 n f) = term x rW rt (named c 0#32) (fun d => w (ix3 0 d f)) n
      + term x rW rt (named c 1#32) (fun d => w (ix3 1 d f)) n + term x rW rt (named c 2#32) (fun d => w (ix3 2 d f)) n := by
  have e1 : ∀ d f, expert w 1 inb_S4x256x512_S1x256x512_1_0_0 (ix3 0 d f) = w (ix3 1 d f) := expert_at w 1 _
  have e2 : ∀ d f, expert w 2 inb_S4x256x512_S1x256x512_2_0_0 (ix3 0 d f) = w (ix3 2 d f) := expert_at w 2 _
  pointwise [sum3, k0_pay13, k0_pay11, k0_pay1, k0_pay4, k0_pay5, gate1_at, gate2_at, first_at, second_at, sum1_at, e1, e2, select_eq, term, weight]

theorem part_at (n : Fin 1024) (f : Fin 512) :
    partOf (F := Ideal) c x rW rt w (ix2 n f) = ∑ j : Fin 4, term x rW rt (BitVec.ofNat 32 (4 * c.val + j.val)) (fun d => w (ix3 j d f)) n := by
  have e3 : ∀ d f, expert w 3 inb_S4x256x512_S1x256x512_3_0_0 (ix3 0 d f) = w (ix3 3 d f) := expert_at w 3 _
  simp only [Fin.sum_univ_four, ← named_eq]
  pointwise [partOf, k0_pay15, k0_pay14, k0_pay1, k0_pay4, k0_pay5, gate1_at, gate2_at, first_at, second_at, sum3_at, e3, select_eq, term, weight]

end Cert.Exchange

end
-- ==== Proof.Total.lean ====
/-
# The exchange adds up every device's share

At the reals the order of the additions does not matter, so after the five stages every row holds, on its owner, the sum
over the thirty-two devices.
-/
module

public import proofs.«01_k».proof.Proof.Protocol
public import Idealize.ShloMosaic.PureOps.Ideal

@[expose] public section

noncomputable section

namespace Cert.Exchange

open Cert.KernelIdeal Cert.KernelIdeal.Gen
open Idealize.ShloMosaic

/-- The devices whose shares device `c` holds in half `i` after `k` stages. -/
def heard (i : ℕ) : ℕ → Dev nD → List (Dev nD)
  | 0, c => [c]
  | k + 1, c => heard i k c ++ heard i k (flip (bitAt i k) c)

/-- After five stages: every device, each once. -/
theorem heard_all : ∀ (i : Fin 2) (c : Dev nD), (heard i.val 5 c).Perm (List.finRange nD) := by decide +kernel

theorem acc_sum (part : Dev nD → FVec Ideal S1024x512 .f32) (i : ℕ) (y : S1024x512.Idx) : ∀ (k : ℕ) (c : Dev nD),
    acc (F := Ideal) part i k c y = ((heard i k c).map fun d => (part d y : EReal)).sum
  | 0, c => by simp [acc, heard]
  | k + 1, c => by
    rw [heard, List.map_append, List.sum_append, ← acc_sum part i y k, ← acc_sum part i y k]
    rfl

theorem outF_sum (part : Dev nD → FVec Ideal S1024x512 .f32) (y : S1024x512.Idx) :
    outF (F := Ideal) part y = ∑ d : Dev nD, (part d y : EReal) := by
  have h : (y 0).val / 512 < 2 := by
    have : (y 0).val < 1024 := (y 0).isLt
    omega
  refine (acc_sum part _ y 5 _).trans ?_
  rw [((heard_all ⟨(y 0).val / 512, h⟩ _).map _).sum_eq]
  exact (Fin.sum_univ_def (n := nD) fun d => (part d y : EReal)).symm

end Cert.Exchange

end
-- ==== Proof.Gates.lean ====
/-
# Arithmetic of the gates

Facts of extended reals, of no program: a softmax's normalisation cancels in the quotient of two gates, and a sum over all
experts under the two gates' weights is the two chosen experts' terms.
-/
module

public import Idealize.ShloMosaic.PureOps.Ideal

@[expose] public section

noncomputable section

namespace Cert.Gates

open Idealize.ShloMosaic
open scoped BigOperators

/-- A quotient of two reals, the divisor not zero. -/
theorem div_real (a b : ℝ) (h : b ≠ 0) : Ideal.div (a : EReal) (b : EReal) = ((a / b : ℝ) : EReal) := by
  rw [Ideal.div_coe h, ← EReal.coe_mul]
  congr 1
  ring

/-- A sum of reals is a real. -/
theorem sum_real {ι : Type} (s : Finset ι) (f : ι → ℝ) : ∑ i ∈ s, ((f i : ℝ) : EReal) = ((∑ i ∈ s, f i : ℝ) : EReal) :=
  (map_sum (⟨⟨Real.toEReal, rfl⟩, EReal.coe_add⟩ : ℝ →+ EReal) f s).symm

/-- The largest of a non-empty family of reals is a real. -/
theorem max_real {n : ℕ} (f : Fin (n + 1) → ℝ) : ∃ r : ℝ, Finset.univ.fold max ⊥ (fun l => ((f l : ℝ) : EReal)) = (r : EReal) := by
  have key : ∀ s : Finset (Fin (n + 1)), s.Nonempty → ∃ r : ℝ, s.fold max ⊥ (fun l => ((f l : ℝ) : EReal)) = (r : EReal) := by
    intro s hs
    induction hs using Finset.Nonempty.cons_induction with
    | singleton a => exact ⟨f a, by simp⟩
    | cons a s ha _ ih =>
      obtain ⟨r, hr⟩ := ih
      exact ⟨max (f a) r, by rw [Finset.fold_cons, hr]; exact (EReal.coe_strictMono.monotone.map_max).symm⟩
  exact key _ Finset.univ_nonempty

/-- Normalising two powers by the same total leaves their quotient. -/
theorem normalised (a b z : ℝ) (ha : 0 < a) (hb : 0 < b) (hz : 0 < z) :
    Ideal.div (Ideal.div (a : EReal) z) (Ideal.div (a : EReal) z + Ideal.div (b : EReal) z) = ((a / (a + b) : ℝ) : EReal) := by
  rw [div_real _ _ hz.ne', div_real _ _ hz.ne', ← EReal.coe_add, div_real _ _ (by positivity)]
  congr 1
  field_simp

/-- A real factor that is not negative goes into a sum. -/
theorem mul_sum_real {ι : Type} (s : Finset ι) (f : ι → EReal) (r : ℝ) (h : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, ← ih, EReal.left_distrib_of_nonneg_of_ne_top (by exact_mod_cast h) (EReal.coe_ne_top r)]

/-- The row `x` under the two gates `a` and `b` of experts `p` and `q`, added up over all experts. -/
theorem combine {E D : ℕ} (x : Fin D → EReal) (M : Fin E → Fin D → EReal) (p q : Fin E) (a b : ℝ) (ha : 0 ≤ a) (hb : 0 ≤ b) :
    ∑ e : Fin E, ∑ d : Fin D, x d * ((if p = e then (a : EReal) else 0) + (if q = e then (b : EReal) else 0)) * M e d
      = (a : EReal) * (∑ d : Fin D, x d * M p d) + (b : EReal) * (∑ d : Fin D, x d * M q d) := by
  have one : ∀ (r s : ℝ), 0 ≤ r → 0 ≤ s → ∀ e : Fin E, ∑ d : Fin D, x d * ((r : EReal) + (s : EReal)) * M e d
      = (r : EReal) * (∑ d : Fin D, x d * M e d) + (s : EReal) * (∑ d : Fin D, x d * M e d) := by
    intro r s hr hs e
    rw [← EReal.right_distrib_of_nonneg (by exact_mod_cast hr) (by exact_mod_cast hs), ← EReal.coe_add, mul_sum_real _ _ _ (by positivity)]
    exact Finset.sum_congr rfl fun d _ => by rw [mul_comm (x d), mul_assoc]
  have each : ∀ e : Fin E, ∑ d : Fin D, x d * ((if p = e then (a : EReal) else 0) + (if q = e then (b : EReal) else 0)) * M e d
      = (if p = e then (a : EReal) * (∑ d : Fin D, x d * M e d) else 0) + (if q = e then (b : EReal) * (∑ d : Fin D, x d * M e d) else 0) := by
    intro e
    have h := one (if p = e then a else 0) (if q = e then b else 0) (by split <;> simp [ha]) (by split <;> simp [hb]) e
    by_cases hp : p = e <;> by_cases hq : q = e <;> simpa [hp, hq] using h
  simp only [each, Finset.sum_add_distrib, Finset.sum_ite_eq, Finset.mem_univ, if_true]

end Cert.Gates

end
-- ==== Proof.Reference.lean ====
/-
# The reference's stages

The reference's composed term, cut into the stages of its mathematics: the probabilities of the router, the two picked
probabilities of every row, the two chosen experts' products, and their gated sum.
-/
module

public import proofs.«01_k».proof.Proof.Partial
public import proofs.«01_k».proof.Proof.Gen.ReferenceIdeal.Run
public import Idealize.ShloMosaic.Lib.Pointwise
public import Idealize.ShloMosaic.Lib.StableHlo.Predicate

@[expose] public section

noncomputable section

namespace Cert.Reference

open Cert.ReferenceIdeal Cert.ReferenceIdeal.Gen
open Idealize.ShloMosaic Idealize.ShloMosaic.TcCoe

variable (x : FVec Ideal S1024x256 .f32) (rW : FVec Ideal S256x128 .f32) (rt : IVec S1024x2 32) (W : FVec Ideal S128x256x512 .f32)

/-- The router's scores. -/
def scores : FVec Ideal S1024x128 .f32 := Host.dotGeneral dot_S1024x256_S256x128_S1024x128_1_0_0_1_n_n none x rW
/-- The exponentials of the scores less each row's largest. -/
def powers : FVec Ideal S1024x128 .f32 :=
  Host.exp (subf (scores x rW) (broadcastInDim S1024x128 ![0, 1] bcast_S1024x1_S1024x128_0_1
    (broadcastInDim S1024x1 ![0] bcast_S1024_S1024x1_0
      (Host.reduce FloatOps.maximumf (scores x rW) (constant S_ .f32 0xFF800000#32) reducesTo_S1024x128_S1024_d1 h_S_))))
/-- The probabilities: the exponentials over each row's sum. -/
def probs : FVec Ideal S1024x128 .f32 :=
  Host.divf (powers x rW) (broadcastInDim S1024x128 ![0, 1] bcast_S1024x1_S1024x128_0_1
    (broadcastInDim S1024x1 ![0] bcast_S1024_S1024x1_0
      (Host.reduceAdd (powers x rW) (constant S_ .f32 0x00000000#32) reducesTo_S1024x128_S1024_d1 h_S_)))
/-- The routes, a negative one counted from the end. -/
def wrapped : IVec S1024x2x1 32 :=
  shapeCast _ (select (cmpi .slt rt (broadcastInDim S1024x2 ![] bcast_S_S1024x2 (constantI S_ 32 0#32)))
    (addi rt (broadcastInDim S1024x2 ![] bcast_S_S1024x2 (constantI S_ 32 128#32))) rt) shapeCasts_S1024x2_S1024x2x1
/-- Which routes name an expert. -/
def within : IVec S1024x2 1 :=
  Host.reduce IntOp.andi (andi (cmpi .sge (wrapped rt) (broadcastInDim S1024x2x1 ![] bcast_S_S1024x2x1 (constantI S_ 32 0#32)))
    (cmpi .sle (wrapped rt) (broadcastInDim S1024x2x1 ![0, 1, 2] bcast_S1x1x1_S1024x2x1_0_1_2
      (broadcastInDim S1x1x1 ![2] bcast_S1_S1x1x1_2 (constantI S1 32 127#32))))) (constantI S_ 1 1#1) reducesTo_S1024x2x1_S1024x2_d2 h_S_
/-- The probabilities of the routed experts. -/
def picks : FVec Ideal S1024x2 .f32 :=
  select (within rt) (Host.gather gather_S1024x128_S1024x2x1_S1024x2_n_1_0_0_1_2_11 (probs x rW) (wrapped rt))
    (broadcastInDim S1024x2 ![] bcast_S_S1024x2 (constant S_ .f32 0x7FC00000#32))
def pick1 : FVec Ideal S1024x1 .f32 := extractStridedSlice S1024x1 ![0, 0] (picks x rW rt) slices_S1024x2_S1024x1_0_0
def pick2 : FVec Ideal S1024x1 .f32 := extractStridedSlice S1024x1 ![0, 1] (picks x rW rt) slices_S1024x2_S1024x1_0_1
/-- The first and the second route of every row. -/
def route1 : IVec S1024 32 := shapeCast _ (extractStridedSlice S1024x1 ![0, 0] rt slices_S1024x2_S1024x1_0_0) shapeCasts_S1024x1_S1024
def route2 : IVec S1024 32 := shapeCast _ (extractStridedSlice S1024x1 ![0, 1] rt slices_S1024x2_S1024x1_0_1) shapeCasts_S1024x1_S1024
/-- Routes as start indices. -/
def starts (r : IVec S1024 32) : IVec S1024x1 32 :=
  broadcastInDim S1024x1 ![0] bcast_S1024_S1024x1_0 (select (cmpi .slt r (broadcastInDim S1024 ![] bcast_S_S1024 (constantI S_ 32 0#32)))
    (addi r (broadcastInDim S1024 ![] bcast_S_S1024 (constantI S_ 32 128#32))) r)
/-- Every row times the matrix of its routed expert. -/
def product (r : IVec S1024 32) : FVec Ideal S1024x512 .f32 :=
  Host.dotGeneral dot_S1024x256_S1024x256x512_S1024x512_1_1_n_2_0_0 none x
    (Host.gather gather_S128x256x512_S1024x1_S1024x256x512_12_0_n_n_0_1_1256512 W (starts r))
/-- The gated sum of the two products. -/
def output : FVec Ideal S1024x512 .f32 :=
  addf (mulf (broadcastInDim S1024x512 ![0, 1] bcast_S1024x1_S1024x512_0_1
      (Host.divf (pick1 x rW rt) (addf (pick1 x rW rt) (pick2 x rW rt)))) (product x W (route1 rt)))
    (mulf (broadcastInDim S1024x512 ![0, 1] bcast_S1024x1_S1024x512_0_1
      (Host.divf (pick2 x rW rt) (addf (pick1 x rW rt) (pick2 x rW rt)))) (product x W (route2 rt)))

theorem output_eq (m : (ℓ : Loc nD τ sig) → Buf (Elt Ideal) ℓ) (c : Dev nD) :
    Cert.ReferenceIdeal.Value.res_main_v40 (F := Ideal) m c
      = output (m ((c.tc : Thread nD τ).loc main_arg0)) (m ((c.tc : Thread nD τ).loc main_arg1))
          (m ((c.tc : Thread nD τ).loc main_arg2)) (m ((c.tc : Thread nD τ).loc main_arg3)) := rfl

/-- A word below 128 as a natural number, clamped, is itself. -/
theorem clamped (e : Fin 128) (w : BitVec 32) (h : w = BitVec.ofNat 32 e.val) : min w.toInt.toNat (128 - 1) = e.val := by
  subst h
  rw [Idealize.ShloMosaic.StableHlo.Predicate.toInt_ofNat_small _ (by omega)]
  omega

/-- The gather along a row, at a start index in range. -/
theorem along_at {α : Type} (p : S1024x128.Idx → α) (idx : IVec S1024x2x1 32) (n : Fin 1024) (k : Fin 2) (e : Fin 128)
    (h : idx (ix3 n k 0) = BitVec.ofNat 32 e.val) :
    Host.gather gather_S1024x128_S1024x2x1_S1024x2_n_1_0_0_1_2_11 p idx (ix2 n k) = p (ix2 n e) := by
  set G := gather_S1024x128_S1024x2x1_S1024x2_n_1_0_0_1_2_11 with hG
  unfold Host.gather
  congr 1
  funext a
  refine Fin.ext ?_
  show G.start (ix2 n k) idx a + G.batchCoord (ix2 n k) a + G.offCoord (ix2 n k) a = _
  match a with
  | 0 =>
    have hb : (0 : Fin 2) ∈ G.operandBatchingDims := List.mem_singleton.mpr rfl
    rw [GatherDims.start_batching _ _ _ _ hb, GatherDims.offCoord_eq_zero _ _ _ (fun h => ((GatherDims.mem_sKept _ _).mp h).2 hb)]
    unfold GatherDims.batchCoord
    rw [dif_pos hb]
    simp only [Nat.zero_add, Nat.add_zero]
    rfl
  | 1 =>
    have hc : (1 : Fin 2) ∈ G.collapsedSliceDims := List.mem_singleton.mpr rfl
    have hm : (1 : Fin 2) ∈ G.startIndexMap := List.mem_singleton.mpr rfl
    rw [GatherDims.batchCoord_eq_zero _ _ _ (fun h => absurd (List.mem_singleton.mp h) (by decide)),
      GatherDims.offCoord_eq_zero _ _ _ (fun h => ((GatherDims.mem_sKept _ _).mp h).1 hc)]
    unfold GatherDims.start
    rw [dif_pos hm]
    simp only [Nat.add_zero]
    have hs : G.siIdx (ix2 n k) ⟨List.idxOf (1 : Fin 2) G.startIndexMap, List.idxOf_lt_length_iff.2 hm⟩ = ix3 n k 0 := by
      funext b
      refine Fin.ext ?_
      match b with
      | 0 => rfl
      | 1 => rfl
      | 2 => rfl
    rw [hs]
    exact clamped e _ h

/-- The gather of whole matrices, at a start index in range. -/
theorem matrix_at {α : Type} (M : S128x256x512.Idx → α) (idx : IVec S1024x1 32) (n : Fin 1024) (d : Fin 256) (f : Fin 512) (e : Fin 128)
    (h : idx (ix2 n 0) = BitVec.ofNat 32 e.val) :
    Host.gather gather_S128x256x512_S1024x1_S1024x256x512_12_0_n_n_0_1_1256512 M idx (ix3 n d f) = M (ix3 e d f) := by
  set G := gather_S128x256x512_S1024x1_S1024x256x512_12_0_n_n_0_1_1256512 with hG
  unfold Host.gather
  congr 1
  funext a
  refine Fin.ext ?_
  show G.start (ix3 n d f) idx a + G.batchCoord (ix3 n d f) a + G.offCoord (ix3 n d f) a = _
  rw [GatherDims.batchCoord_eq_zero _ _ _ (fun h => absurd h List.not_mem_nil)]
  match a with
  | 0 =>
    have hc : (0 : Fin 3) ∈ G.collapsedSliceDims := List.mem_singleton.mpr rfl
    have hm : (0 : Fin 3) ∈ G.startIndexMap := List.mem_singleton.mpr rfl
    rw [GatherDims.offCoord_eq_zero _ _ _ (fun h => ((GatherDims.mem_sKept _ _).mp h).1 hc)]
    unfold GatherDims.start
    rw [dif_pos hm]
    simp only [Nat.add_zero]
    have hs : G.siIdx (ix3 n d f) ⟨List.idxOf (0 : Fin 3) G.startIndexMap, List.idxOf_lt_length_iff.2 hm⟩ = ix2 n 0 := by
      funext b
      refine Fin.ext ?_
      match b with
      | 0 => rfl
      | 1 => rfl
    rw [hs]
    exact clamped e _ h
  | 1 =>
    have hm : (1 : Fin 3) ∉ G.startIndexMap := fun h => absurd (List.mem_singleton.mp h) (by decide)
    have hk : (1 : Fin 3) ∈ G.sKept := (GatherDims.mem_sKept _ _).mpr ⟨fun h => absurd (List.mem_singleton.mp h) (by decide), List.not_mem_nil⟩
    unfold GatherDims.start GatherDims.offCoord
    rw [dif_neg hm, dif_pos hk]
    simp only [Nat.zero_add]
    rfl
  | 2 =>
    have hm : (2 : Fin 3) ∉ G.startIndexMap := fun h => absurd (List.mem_singleton.mp h) (by decide)
    have hk : (2 : Fin 3) ∈ G.sKept := (GatherDims.mem_sKept _ _).mpr ⟨fun h => absurd (List.mem_singleton.mp h) (by decide), List.not_mem_nil⟩
    unfold GatherDims.start GatherDims.offCoord
    rw [dif_neg hm, dif_pos hk]
    simp only [Nat.zero_add]
    rfl

open Cert.Exchange (score topScore power negInf)

/-- A selection on a false bit. -/
theorem select_zero {α : Type} (u v : α) : Scalar.select 0#1 u v = v := rfl
/-- A selection on a true bit. -/
theorem select_one {α : Type} (u v : α) : Scalar.select 1#1 u v = u := rfl

/-- A route that names expert `e` is not negative, and lies between the first and the last. -/
theorem not_negative (e : Fin 128) : IntOp.cmpi .slt (BitVec.ofNat 32 e.val) 0#32 = 0#1 := by
  revert e; decide +kernel
theorem between (e : Fin 128) :
    IntOp.andi (IntOp.cmpi .sge (BitVec.ofNat 32 e.val) 0#32) (IntOp.cmpi .sle (BitVec.ofNat 32 e.val) 127#32) = 1#1 := by
  revert e; decide +kernel

theorem scores_at (n : Fin 1024) (l : Fin 128) : scores x rW (ix2 n l) = score x rW n l := by
  pointwise [scores, score]

theorem powers_at (n : Fin 1024) (l : Fin 128) : powers x rW (ix2 n l) = power x rW n l := by
  pointwise [powers, scores_at, power, topScore, negInf]

theorem probs_at (n : Fin 1024) (l : Fin 128) :
    probs x rW (ix2 n l) = Ideal.div (power x rW n l) (∑ l, power x rW n l) := by
  pointwise [probs, powers_at]

theorem wrapped_at (n : Fin 1024) (k : Fin 2) (o : Fin 1) (e : Fin 128) (h : rt (ix2 n k) = BitVec.ofNat 32 e.val) :
    wrapped rt (ix3 n k o) = BitVec.ofNat 32 e.val := by
  obtain rfl : o = 0 := Subsingleton.elim _ _
  pointwise [wrapped, h, not_negative, select_zero]

theorem within_at (n : Fin 1024) (k : Fin 2) (e : Fin 128) (h : rt (ix2 n k) = BitVec.ofNat 32 e.val) :
    within rt (ix2 n k) = 1#1 := by
  have e : ∀ o, wrapped rt (ix3 n k o) = BitVec.ofNat 32 e.val := fun o => wrapped_at rt n k o e h
  pointwise [within, e, between]
  rfl

theorem picks_at (n : Fin 1024) (k : Fin 2) (e : Fin 128) (h : rt (ix2 n k) = BitVec.ofNat 32 e.val) :
    picks x rW rt (ix2 n k) = Ideal.div (power x rW n e) (∑ l, power x rW n l) := by
  have hg := along_at (probs x rW) (wrapped rt) n k e (wrapped_at rt n k 0 e h)
  pointwise [picks, within_at rt n k e h, select_one, hg, probs_at]

theorem product_at (r : IVec S1024 32) (n : Fin 1024) (f : Fin 512) (e : Fin 128) (h : r (ix1 n) = BitVec.ofNat 32 e.val) :
    product x W r (ix2 n f) = ∑ d : Fin 256, x (ix2 n d) * W (ix3 e d f) := by
  have hs : starts r (ix2 n 0) = BitVec.ofNat 32 e.val := by
    pointwise [starts, h, not_negative, select_zero]
  have hg : ∀ d, Host.gather gather_S128x256x512_S1024x1_S1024x256x512_12_0_n_n_0_1_1256512 W (starts r) (ix3 n d f) = W (ix3 e d f) :=
    fun d => matrix_at W (starts r) n d f e hs
  pointwise [product, hg]

theorem output_at (n : Fin 1024) (f : Fin 512) (e0 e1 : Fin 128)
    (h0 : rt (ix2 n 0) = BitVec.ofNat 32 e0.val) (h1 : rt (ix2 n 1) = BitVec.ofNat 32 e1.val) (z q0 q1 : EReal)
    (hz : z = ∑ l, power x rW n l) (hq0 : q0 = Ideal.div (power x rW n e0) z) (hq1 : q1 = Ideal.div (power x rW n e1) z) :
    output x rW rt W (ix2 n f)
      = Ideal.div q0 (q0 + q1) * (∑ d : Fin 256, x (ix2 n d) * W (ix3 e0 d f))
        + Ideal.div q1 (q0 + q1) * (∑ d : Fin 256, x (ix2 n d) * W (ix3 e1 d f)) := by
  have p0 := picks_at x rW rt n 0 e0 h0
  have p1 := picks_at x rW rt n 1 e1 h1
  rw [← hz, ← hq0] at p0
  rw [← hz, ← hq1] at p1
  have r0 : route1 rt (ix1 n) = BitVec.ofNat 32 e0.val := by pointwise [route1, h0]
  have r1 : route2 rt (ix1 n) = BitVec.ofNat 32 e1.val := by pointwise [route2, h1]
  have m0 := product_at x W (route1 rt) n f e0 r0
  have m1 := product_at x W (route2 rt) n f e1 r1
  pointwise [output, pick1, pick2, p0, p1, m0, m1]

end Cert.Reference

end
-- ==== Proof.Value.lean ====
/-
# The kernel's value is the reference's

With every route naming an expert and with real scores, the powers of a row are positive reals; the weights of all experts
but the routed two are zero, and the two gates are the same quotients on both sides.
-/
module

public import proofs.«01_k».proof.Proof.Partial
public import proofs.«01_k».proof.Proof.Total
public import proofs.«01_k».proof.Proof.Gates
public import proofs.«01_k».proof.Proof.Reference
public import Idealize.ShloMosaic.Lib.Layout

@[expose] public section

noncomputable section

namespace Cert.Exchange

open Cert.KernelIdeal Cert.KernelIdeal.Gen
open Idealize.ShloMosaic

variable (x : FVec Ideal S1024x256 .f32) (rW : FVec Ideal S256x128 .f32) (rt : IVec S1024x2 32)

/-- The powers of a row are positive reals. -/
theorem power_real (hx : ∀ n d, ∃ r : ℝ, x (ix2 n d) = (r : EReal)) (hr : ∀ d l, ∃ r : ℝ, rW (ix2 d l) = (r : EReal)) (n : Fin 1024) :
    ∃ p : Fin 128 → ℝ, (∀ l, 0 < p l) ∧ ∀ l, power x rW n l = (p l : EReal) := by
  choose X hX using hx
  choose R hR using hr
  have hs : ∀ l, score x rW n l = ((∑ d, X n d * R d l : ℝ) : EReal) := fun l => by
    rw [← Cert.Gates.sum_real]
    exact Finset.sum_congr rfl fun d _ => by rw [hX, hR, EReal.coe_mul]
  obtain ⟨t, ht⟩ := Cert.Gates.max_real (n := 127) fun l => ∑ d, X n d * R d l
  have hm : topScore x rW n = (t : EReal) := by
    rw [← ht]
    unfold topScore
    congr 1
    funext l
    exact hs l
  refine ⟨fun l => Real.exp (∑ d, X n d * R d l - t), fun l => Real.exp_pos _, fun l => ?_⟩
  unfold power
  rw [hs, hm, ← EReal.coe_sub]
  rfl

/-- Words of two experts are the same only for the same expert. -/
theorem word_inj (a b : Fin 128) : BitVec.ofNat 32 a.val = BitVec.ofNat 32 b.val ↔ a = b := by
  constructor
  · intro h
    have := congrArg BitVec.toNat h
    simp only [BitVec.toNat_ofNat] at this
    exact Fin.ext (by omega)
  · rintro rfl; rfl

theorem picked_at (n : Fin 1024) (e : Fin 128) : picked x rW n (BitVec.ofNat 32 e.val) = power x rW n e := by
  simp only [picked, word_inj, Finset.sum_ite_eq', Finset.mem_univ, if_true]

section
variable (n : Fin 1024) (e0 e1 : Fin 128) (h0 : rt (ix2 n 0) = BitVec.ofNat 32 e0.val) (h1 : rt (ix2 n 1) = BitVec.ofNat 32 e1.val)
  (p : Fin 128 → ℝ) (hp : ∀ l, 0 < p l) (hq : ∀ l, power x rW n l = (p l : EReal))
include h0 h1 hp hq

theorem share1_real : share1 x rW rt n = ((p e0 / (p e0 + p e1) : ℝ) : EReal) := by
  have := hp e0; have := hp e1
  rw [share1, h0, h1, picked_at, picked_at, hq, hq, ← EReal.coe_add, Cert.Gates.div_real _ _ (by positivity)]

theorem share2_real : share2 x rW rt n = ((p e1 / (p e0 + p e1) : ℝ) : EReal) := by
  have := hp e0; have := hp e1
  rw [share2, h0, h1, picked_at, picked_at, hq, hq, ← EReal.coe_add, Cert.Gates.div_real _ _ (by positivity)]

theorem weight_at (e : Fin 128) : weight x rW rt n (BitVec.ofNat 32 e.val)
    = (if e0 = e then ((p e0 / (p e0 + p e1) : ℝ) : EReal) else 0) + (if e1 = e then ((p e1 / (p e0 + p e1) : ℝ) : EReal) else 0) := by
  rw [weight, share1_real x rW rt n e0 e1 h0 h1 p hp hq, share2_real x rW rt n e0 e1 h0 h1 p hp hq]
  simp only [h0, h1, word_inj]

/-- All experts' terms of a row are the two routed experts' gated products. -/
theorem terms_at (M : Fin 128 → Fin 256 → EReal) : ∑ e : Fin 128, term x rW rt (BitVec.ofNat 32 e.val) (M e) n
    = ((p e0 / (p e0 + p e1) : ℝ) : EReal) * (∑ d, x (ix2 n d) * M e0 d) + ((p e1 / (p e0 + p e1) : ℝ) : EReal) * (∑ d, x (ix2 n d) * M e1 d) := by
  have := hp e0; have := hp e1
  rw [← Cert.Gates.combine (fun d => x (ix2 n d)) M e0 e1 _ _ (by positivity) (by positivity)]
  refine Finset.sum_congr rfl fun e _ => ?_
  unfold term
  simp only [weight_at x rW rt n e0 e1 h0 h1 p hp hq]
end

/-- Four experts to a device, thirty-two devices: every expert once. -/
theorem sum_devices (g : Fin 128 → EReal) : ∑ c : Dev nD, ∑ j : Fin 4, g ⟨4 * c.val + j.val, by have := c.isLt; have := j.isLt; change c.val < 32 at *; omega⟩
    = ∑ e : Fin 128, g e := by
  have e := (finProdFinEquiv : Fin 32 × Fin 4 ≃ Fin (32 * 4)).sum_comp (g := g)
  rw [← e, Fintype.sum_prod_type]
  refine Finset.sum_congr rfl fun c _ => Finset.sum_congr rfl fun j _ => congrArg g (Fin.ext ?_)
  change 4 * c.val + j.val = j.val + 4 * c.val
  omega

/-- Device `c`'s block of the experts' matrices, at an entry. -/
theorem block_at (W : FVec Ideal Cert.ReferenceIdeal.S128x256x512 .f32) (c : Dev nD) (j : Fin 4) (d : Fin 256) (f : Fin 512)
    (h : 4 * c.val + j.val < 128) :
    (Layout.block S4x256x512 Cert.ReferenceIdeal.S128x256x512 0 32 c W : FVec Ideal S4x256x512 .f32) (ix3 j d f) = W (ix3 ⟨4 * c.val + j.val, h⟩ d f) := by
  rw [Layout.block_apply]
  congr 1
  funext a
  refine Fin.ext ?_
  match a with
  | 0 =>
    change c.val * 4 + j.val = 4 * c.val + j.val
    omega
  | 1 => rfl
  | 2 => rfl

/-- What every device ends with is the reference's output. -/
theorem value_eq (W : FVec Ideal Cert.ReferenceIdeal.S128x256x512 .f32)
    (hx : ∀ n d, ∃ r : ℝ, x (ix2 n d) = (r : EReal)) (hr : ∀ d l, ∃ r : ℝ, rW (ix2 d l) = (r : EReal))
    (ht : ∀ (n : Fin 1024) (k : Fin 2), ∃ e : Fin 128, rt (ix2 n k) = BitVec.ofNat 32 e.val) :
    outF (F := Ideal) (fun c => partOf c x rW rt (Layout.block S4x256x512 Cert.ReferenceIdeal.S128x256x512 0 32 c W))
      = Cert.Reference.output x rW rt W := by
  funext y
  obtain ⟨n, f, rfl⟩ : ∃ (n : Fin 1024) (f : Fin 512), y = ix2 n f := ⟨y 0, y 1, eq_ix2 y⟩
  obtain ⟨e0, h0⟩ := ht n 0
  obtain ⟨e1, h1⟩ := ht n 1
  obtain ⟨p, hp, hq⟩ := power_real x rW hx hr n
  have hz : ∑ l, power x rW n l = ((∑ l, p l : ℝ) : EReal) := by
    rw [← Cert.Gates.sum_real]
    exact Finset.sum_congr rfl fun l _ => hq l
  have hpos : 0 < ∑ l, p l := Finset.sum_pos (fun l _ => hp l) Finset.univ_nonempty
  rw [Cert.Reference.output_at x rW rt W n f e0 e1 h0 h1 _ _ _ hz.symm (by rw [hq]) (by rw [hq]),
    Cert.Gates.normalised _ _ _ (hp e0) (hp e1) hpos,
    add_comm (Ideal.div (p e0 : EReal) _), Cert.Gates.normalised _ _ _ (hp e1) (hp e0) hpos, add_comm (p e1),
    ← terms_at x rW rt n e0 e1 h0 h1 p hp hq (fun e d => W (ix3 e d f)), ← sum_devices, outF_sum]
  refine Finset.sum_congr rfl fun c _ => ?_
  rw [part_at]
  refine Finset.sum_congr rfl fun j _ => ?_
  refine congrArg (fun M => term x rW rt _ M n) (funext fun d => ?_)
  exact block_at W c j d f _

end Cert.Exchange

end
-- ==== Proof.Algebraic.lean ====
/-
# The value claim

The kernel's run and the reference's, from memories that hold the same arguments, end with the same result.
-/
module

public import proofs.«01_k».proof.Proof.Frames
public import proofs.«01_k».proof.Proof.Given
public import proofs.«01_k».proof.Proof.Value

@[expose] public section

noncomputable section

namespace Cert.Exchange

open Idealize.ShloMosaic Idealize.SL.Sem

theorem frame_real_pre : Cert.quiescent_KernelIdeal_pre_routed_and_finite_KernelIdeal (hKernelIdeal := Cert.KernelIdeal.Gen.facts)
    (hPre_routed_and_finite_KernelIdeal := Cert.Given.factsKernel) := fun m ρ _ => frame_real m ρ (by trivial)

theorem frame_ref_pre : Cert.quiescent_ReferenceIdeal_pre_routed_and_finite_ReferenceIdeal (hReferenceIdeal := Cert.ReferenceIdeal.Gen.facts)
    (hPre_routed_and_finite_ReferenceIdeal := Cert.Given.factsReference) := fun m ρ _ => frame_ref m ρ (by trivial)

theorem algebraic : Cert.algebraic_KernelIdeal_ReferenceIdeal_pre_routed_and_finite_KernelIdeal (hKernelIdeal := Cert.KernelIdeal.Gen.facts)
    (hReferenceIdeal := Cert.ReferenceIdeal.Gen.facts) (hPre_routed_and_finite_KernelIdeal := Cert.Given.factsKernel) := fun m g m' g' hpre heq => by
  obtain ⟨ht, hx, hr⟩ := hpre 0
  have hparts : parts (F := Ideal) m = fun c => partOf (F := Ideal) c
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (Layout.block Cert.KernelIdeal.S4x256x512 Cert.ReferenceIdeal.S128x256x512 0 32 c
        (m' (((0 : Dev Cert.ReferenceIdeal.nD).tc : Thread Cert.ReferenceIdeal.nD Cert.ReferenceIdeal.τ).loc Cert.ReferenceIdeal.main_arg3))) := by
    funext c
    obtain ⟨a0, a1, a2, a3⟩ := heq c
    show partOf c (argX m c) (argR m c) (argT m c) (argW m c) = _
    exact congr (congr (congr (congrArg (partOf (F := Ideal) c) a0) a1) a2) a3
  have hval := value_eq _ _ _ (m' (((0 : Dev Cert.ReferenceIdeal.nD).tc : Thread Cert.ReferenceIdeal.nD Cert.ReferenceIdeal.τ).loc Cert.ReferenceIdeal.main_arg3))
    (Cert.Given.rows_real (hF := Cert.Given.factsKernel) _ _ _ _ hx) (Cert.Given.router_real (hF := Cert.Given.factsKernel) _ _ _ _ hr)
    (Cert.Given.routes_named (hF := Cert.Given.factsKernel) _ _ _ _ ht)
  obtain ⟨a0, a1, a2, a3⟩ := heq 0
  rw [a0, a1, a2] at hval
  refine ⟨Cert.ReferenceIdeal.Value.res_main_v40 (F := Ideal) m' 0, ?_, ?_⟩
  · refine (θ_run (Cert.KernelIdeal.defs (F := Ideal)) _ _).mono (fun _ h c => ⟨?_, (h.1 c).2⟩) (run_main (F := Ideal) m g)
    refine (h.1 c).1.trans ?_
    rw [hparts, Cert.Reference.output_eq]
    exact hval
  · exact (θ_run (Cert.ReferenceIdeal.defs (F := Ideal)) _ _).mono (fun _ h => h 0) (Cert.ReferenceIdeal.Value.run (F := Ideal) m' g')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Given.factsKernel, Cert.Given.factsReference,
  Cert.Exchange.frame_bits, Cert.Exchange.frame_real, Cert.Exchange.frame_real_pre, Cert.Exchange.frame_ref, Cert.Exchange.frame_ref_pre,
  trivial, Cert.Exchange.algebraic⟩

end Cert.Proof

end
